-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "smooth" .f32 0x3586386D#32 ((1 / 999980 : ℝ) : EReal)
  ∧ IdealRules.named_const.Statement Cert.KernelIdeal.κ "c1" .f32 0xBFBCF9CF#32 (((1 / 10) * (Real.log (387420489 / 999980000000000)) : ℝ) : EReal)
  ∧ IdealRules.named_const.Statement Cert.KernelIdeal.κ "conf" .f32 0x3F666666#32 ((9 / 10 : ℝ) : EReal)

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 100000#32
  let main_v3 : IVec S1024 32 := broadcastInDim S1024 ![] bcast_S_S1024 main_c_1
  let main_v4 : IVec S1024 1 := cmpi .slt main_arg1 main_v3
  let main_c_2 : IVec S_ 1 := constantI S_ 1 1#1
  let main_v5 : IVec S_ 1 := (fun x v => Host.reduce IntOp.andi x v reducesTo_S1024_S_d0 h_S_) main_v4 main_c_2
  let main_v6 : IVec S_ 1 := andi main_v2 main_v5
  main_v6
-- ==== Pre_in_range_finite.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x100000 : S_.BroadcastsInDim S1024x100000 (![] : Fin 0 → Fin S1024x100000.rank)
  reducesTo_S1024x100000_S_d0_1 : S1024x100000.ReducesTo [0, 1] S_

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 100000#32
  let main_v3 : IVec S1024 32 := broadcastInDim S1024 ![] bcast_S_S1024 main_c_1
  let main_v4 : IVec S1024 1 := cmpi .slt main_arg1 main_v3
  let main_c_2 : IVec S_ 1 := constantI S_ 1 1#1
  let main_v5 : IVec S_ 1 := (fun x v => Host.reduce IntOp.andi x v reducesTo_S1024_S_d0 h_S_) main_v4 main_c_2
  let main_v6 : IVec S_ 1 := andi main_v2 main_v5
  let main_v7 : FVec F S1024x100000 .f32 := Host.absf main_arg0
  let main_cst : FVec F S_ .f32 := constant S_ .f32 0x7F800000#32
  let main_v8 : FVec F S1024x100000 .f32 := broadcastInDim S1024x100000 ![] bcast_S_S1024x100000 main_cst
  let main_v9 : IVec S1024x100000 1 := cmpf .olt main_v7 main_v8
  let main_c_3 : IVec S_ 1 := constantI S_ 1 1#1
  let main_v10 : IVec S_ 1 := (fun x v => Host.reduce IntOp.andi x v reducesTo_S1024x100000_S_d0_1 h_S_) main_v9 main_c_3
  let main_v11 : IVec S_ 1 := andi main_v6 main_v10
  main_v11
-- ==== Kernel.lean ====
abbrev S1024x100000 : Shape := ⟨2, ![1024, 100000]⟩
abbrev S1024 : Shape := ⟨1, ![1024]⟩
abbrev S_ : Shape := ⟨0, ![]⟩
abbrev S1024x100096 : Shape := ⟨2, ![1024, 100096]⟩
abbrev S32 : Shape := ⟨1, ![32]⟩
abbrev S256x128 : Shape := ⟨2, ![256, 128]⟩
abbrev S32x128 : Shape := ⟨2, ![32, 128]⟩
abbrev S16 : Shape := ⟨1, ![16]⟩
abbrev S1 : Shape := ⟨1, ![1]⟩
abbrev S8x128 : Shape := ⟨2, ![8, 128]⟩
abbrev S1024x1 : Shape := ⟨2, ![1024, 1]⟩
abbrev S1x1 : Shape := ⟨2, ![1, 1]⟩
abbrev S1024x2048 : Shape := ⟨2, ![1024, 2048]⟩
abbrev S1024x128 : Shape := ⟨2, ![1024, 128]⟩
abbrev S1x2048 : Shape := ⟨2, ![1, 2048]⟩
abbrev S1x1024x1 : Shape := ⟨3, ![1, 1024, 1]⟩
abbrev S1x1x1 : Shape := ⟨3, ![1, 1, 1]⟩

abbrev nBuf : Table → Nat
  | .hbm => 12
  | .local .tc .vmem => 6
  | .local .tc .smem => 1
  | .local .scVector .vmem => 5
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S_, .i32⟩
  | .hbm, ⟨3, _⟩ => ⟨S_, .f32⟩
  | .hbm, ⟨4, _⟩ => ⟨S1024x100096, .f32⟩
  | .hbm, ⟨5, _⟩ => ⟨S1024, .f32⟩
  | .hbm, ⟨6, _⟩ => ⟨S1024, .f32⟩
  | .hbm, ⟨7, _⟩ => ⟨S1024x1, .i32⟩
  | .hbm, ⟨8, _⟩ => ⟨S1024x1, .f32⟩
  | .hbm, ⟨9, _⟩ => ⟨S1024x1, .f32⟩
  | .hbm, ⟨10, _⟩ => ⟨S1x1, .f32⟩
  | .hbm, ⟨11, _⟩ => ⟨S_, .f32⟩
  | .local .tc .vmem, ⟨0, _⟩ => ⟨S1024x1, .i32⟩
  | .local .tc .vmem, ⟨1, _⟩ => ⟨S1024x1, .f32⟩
  | .local .tc .vmem, ⟨2, _⟩ => ⟨S1024x1, .f32⟩
  | .local .tc .vmem, ⟨3, _⟩ => ⟨S1024x2048, .f32⟩
  | .local .tc .vmem, ⟨4, _⟩ => ⟨S1024x2048, .f32⟩
  | .local .tc .vmem, ⟨5, _⟩ => ⟨S1024x128, .f32⟩
  | .local .tc .smem, ⟨0, _⟩ => ⟨S1x1, .f32⟩
  | .local .scVector .vmem, ⟨0, _⟩ => ⟨S32, .i32⟩
  | .local .scVector .vmem, ⟨1, _⟩ => ⟨S256x128, .f32⟩
  | .local .scVector .vmem, ⟨2, _⟩ => ⟨S32x128, .f32⟩
  | .local .scVector .vmem, ⟨3, _⟩ => ⟨S32, .f32⟩
  | .local .scVector .vmem, ⟨4, _⟩ => ⟨S32, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v0_scv : Ref sig .scVector := ⟨.hbm, 4, rfl⟩
abbrev main_arg1_scv : Ref sig .scVector := ⟨.hbm, 1, rfl⟩
abbrev main_v1_0_scv : Ref sig .scVector := ⟨.hbm, 5, rfl⟩
abbrev main_v1_1_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg3_1 : Ref sig .tc := ⟨.vmem, 4, rfl⟩
abbrev cc1_scratch0 : Ref sig .tc := ⟨.vmem, 5, rfl⟩
abbrev cc1_stg4_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem2_0 : DmaSem sig := 7
abbrev cc1_sem3_0 : DmaSem sig := 8
abbrev cc1_sem3_1 : DmaSem sig := 9
abbrev cc1_sem4_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  ![v2.toNat, 0]
def k0_mult1 (v12 : BitVec 32) : BitVec 32 :=
  v12

def k0_off3 (i : grid0.Coords) (v12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_2 : BitVec 32 := 0#32
  let v10 : BitVec 32 := Scalar.addi v2 c0_i32_2
  let v13 : BitVec 32 := v12
  ![v10.toNat, v13.toNat]
def k0_mult2 (v20 : BitVec 32) : BitVec 32 :=
  v20

def k0_off4 (i : grid0.Coords) (v20 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let v18 : BitVec 32 := Scalar.addi v2 c0_i32_7
  let v21 : BitVec 32 := v20
  ![v18.toNat, v21.toNat]
def k0_mult3 (v28 : BitVec 32) : BitVec 32 :=
  v28

def k0_off5 (i : grid0.Coords) (v28 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_11 : BitVec 32 := 0#32
  let v26 : BitVec 32 := Scalar.addi v2 c0_i32_11
  let v29 : BitVec 32 := v28
  ![v26.toNat, v29.toNat]
def k0_mult4 (v36 : BitVec 32) : BitVec 32 :=
  v36

def k0_off6 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let v34 : BitVec 32 := Scalar.addi v2 c0_i32_15
  let v37 : BitVec 32 := v36
  ![v34.toNat, v37.toNat]
def k0_mult5 (v44 : BitVec 32) : BitVec 32 :=
  v44

def k0_off7 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_19 : BitVec 32 := 0#32
  let v42 : BitVec 32 := Scalar.addi v2 c0_i32_19
  let v45 : BitVec 32 := v44
  ![v42.toNat, v45.toNat]
def k0_mult6 (v52 : BitVec 32) : BitVec 32 :=
  v52

def k0_off8 (i : grid0.Coords) (v52 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_24 : BitVec 32 := 0#32
  let v50 : BitVec 32 := Scalar.addi v2 c0_i32_24
  let v53 : BitVec 32 := v52
  ![v50.toNat, v53.toNat]
def k0_mult7 (v60 : BitVec 32) : BitVec 32 :=
  v60

def k0_off9 (i : grid0.Coords) (v60 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_28 : BitVec 32 := 0#32
  let v58 : BitVec 32 := Scalar.addi v2 c0_i32_28
  let v61 : BitVec 32 := v60
  ![v58.toNat, v61.toNat]
def k0_mult8 (v68 : BitVec 32) : BitVec 32 :=
  v68

def k0_off10 (i : grid0.Coords) (v68 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_32 : BitVec 32 := 0#32
  let v66 : BitVec 32 := Scalar.addi v2 c0_i32_32
  let v69 : BitVec 32 := v68
  ![v66.toNat, v69.toNat]
def k0_mult9 (v76 : BitVec 32) : BitVec 32 :=
  v76

def k0_off11 (i : grid0.Coords) (v76 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_36 : BitVec 32 := 8#32
  let v74 : BitVec 32 := Scalar.addi v2 c8_i32_36
  let v77 : BitVec 32 := v76
  ![v74.toNat, v77.toNat]
def k0_mult10 (v84 : BitVec 32) : BitVec 32 :=
  v84

def k0_off12 (i : grid0.Coords) (v84 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_40 : BitVec 32 := 8#32
  let v82 : BitVec 32 := Scalar.addi v2 c8_i32_40
  let v85 : BitVec 32 := v84
  ![v82.toNat, v85.toNat]
def k0_mult11 (v92 : BitVec 32) : BitVec 32 :=
  v92

def k0_off13 (i : grid0.Coords) (v92 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_44 : BitVec 32 := 8#32
  let v90 : BitVec 32 := Scalar.addi v2 c8_i32_44
  let v93 : BitVec 32 := v92
  ![v90.toNat, v93.toNat]
def k0_mult12 (v100 : BitVec 32) : BitVec 32 :=
  v100

def k0_off14 (i : grid0.Coords) (v100 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_48 : BitVec 32 := 8#32
  let v98 : BitVec 32 := Scalar.addi v2 c8_i32_48
  let v101 : BitVec 32 := v100
  ![v98.toNat, v101.toNat]
def k0_mult13 (v108 : BitVec 32) : BitVec 32 :=
  v108

def k0_off15 (i : grid0.Coords) (v108 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_52 : BitVec 32 := 8#32
  let v106 : BitVec 32 := Scalar.addi v2 c8_i32_52
  let v109 : BitVec 32 := v108
  ![v106.toNat, v109.toNat]
def k0_mult14 (v116 : BitVec 32) : BitVec 32 :=
  v116

def k0_off16 (i : grid0.Coords) (v116 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_56 : BitVec 32 := 8#32
  let v114 : BitVec 32 := Scalar.addi v2 c8_i32_56
  let v117 : BitVec 32 := v116
  ![v114.toNat, v117.toNat]
def k0_mult15 (v124 : BitVec 32) : BitVec 32 :=
  v124

def k0_off17 (i : grid0.Coords) (v124 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_60 : BitVec 32 := 8#32
  let v122 : BitVec 32 := Scalar.addi v2 c8_i32_60
  let v125 : BitVec 32 := v124
  ![v122.toNat, v125.toNat]
def k0_mult16 (v132 : BitVec 32) : BitVec 32 :=
  v132

def k0_off18 (i : grid0.Coords) (v132 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_64 : BitVec 32 := 8#32
  let v130 : BitVec 32 := Scalar.addi v2 c8_i32_64
  let v133 : BitVec 32 := v132
  ![v130.toNat, v133.toNat]
def k0_mult17 (v145 : BitVec 32) : BitVec 32 :=
  v145

def k0_off19 (i : grid0.Coords) (v145 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_70 : BitVec 32 := 16#32
  let v143 : BitVec 32 := Scalar.addi v2 c16_i32_70
  let v146 : BitVec 32 := v145
  ![v143.toNat, v146.toNat]
def k0_mult18 (v153 : BitVec 32) : BitVec 32 :=
  v153

def k0_off20 (i : grid0.Coords) (v153 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_74 : BitVec 32 := 16#32
  let v151 : BitVec 32 := Scalar.addi v2 c16_i32_74
  let v154 : BitVec 32 := v153
  ![v151.toNat, v154.toNat]
def k0_mult19 (v161 : BitVec 32) : BitVec 32 :=
  v161

def k0_off21 (i : grid0.Coords) (v161 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_78 : BitVec 32 := 16#32
  let v159 : BitVec 32 := Scalar.addi v2 c16_i32_78
  let v162 : BitVec 32 := v161
  ![v159.toNat, v162.toNat]
def k0_mult20 (v169 : BitVec 32) : BitVec 32 :=
  v169

def k0_off22 (i : grid0.Coords) (v169 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_82 : BitVec 32 := 16#32
  let v167 : BitVec 32 := Scalar.addi v2 c16_i32_82
  let v170 : BitVec 32 := v169
  ![v167.toNat, v170.toNat]
def k0_mult21 (v177 : BitVec 32) : BitVec 32 :=
  v177

def k0_off23 (i : grid0.Coords) (v177 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_86 : BitVec 32 := 16#32
  let v175 : BitVec 32 := Scalar.addi v2 c16_i32_86
  let v178 : BitVec 32 := v177
  ![v175.toNat, v178.toNat]
def k0_mult22 (v185 : BitVec 32) : BitVec 32 :=
  v185

def k0_off24 (i : grid0.Coords) (v185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_90 : BitVec 32 := 16#32
  let v183 : BitVec 32 := Scalar.addi v2 c16_i32_90
  let v186 : BitVec 32 := v185
  ![v183.toNat, v186.toNat]
def k0_mult23 (v193 : BitVec 32) : BitVec 32 :=
  v193

def k0_off25 (i : grid0.Coords) (v193 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_94 : BitVec 32 := 16#32
  let v191 : BitVec 32 := Scalar.addi v2 c16_i32_94
  let v194 : BitVec 32 := v193
  ![v191.toNat, v194.toNat]
def k0_mult24 (v201 : BitVec 32) : BitVec 32 :=
  v201

def k0_off26 (i : grid0.Coords) (v201 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_98 : BitVec 32 := 16#32
  let v199 : BitVec 32 := Scalar.addi v2 c16_i32_98
  let v202 : BitVec 32 := v201
  ![v199.toNat, v202.toNat]
def k0_mult25 (v209 : BitVec 32) : BitVec 32 :=
  v209

def k0_off27 (i : grid0.Coords) (v209 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_102 : BitVec 32 := 24#32
  let v207 : BitVec 32 := Scalar.addi v2 c24_i32_102
  let v210 : BitVec 32 := v209
  ![v207.toNat, v210.toNat]
def k0_mult26 (v217 : BitVec 32) : BitVec 32 :=
  v217

def k0_off28 (i : grid0.Coords) (v217 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_106 : BitVec 32 := 24#32
  let v215 : BitVec 32 := Scalar.addi v2 c24_i32_106
  let v218 : BitVec 32 := v217
  ![v215.toNat, v218.toNat]
def k0_mult27 (v225 : BitVec 32) : BitVec 32 :=
  v225

def k0_off29 (i : grid0.Coords) (v225 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_110 : BitVec 32 := 24#32
  let v223 : BitVec 32 := Scalar.addi v2 c24_i32_110
  let v226 : BitVec 32 := v225
  ![v223.toNat, v226.toNat]
def k0_mult28 (v233 : BitVec 32) : BitVec 32 :=
  v233

def k0_off30 (i : grid0.Coords) (v233 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_114 : BitVec 32 := 24#32
  let v231 : BitVec 32 := Scalar.addi v2 c24_i32_114
  let v234 : BitVec 32 := v233
  ![v231.toNat, v234.toNat]
def k0_mult29 (v241 : BitVec 32) : BitVec 32 :=
  v241

def k0_off31 (i : grid0.Coords) (v241 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_118 : BitVec 32 := 24#32
  let v239 : BitVec 32 := Scalar.addi v2 c24_i32_118
  let v242 : BitVec 32 := v241
  ![v239.toNat, v242.toNat]
def k0_mult30 (v249 : BitVec 32) : BitVec 32 :=
  v249

def k0_off32 (i : grid0.Coords) (v249 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_122 : BitVec 32 := 24#32
  let v247 : BitVec 32 := Scalar.addi v2 c24_i32_122
  let v250 : BitVec 32 := v249
  ![v247.toNat, v250.toNat]
def k0_mult31 (v257 : BitVec 32) : BitVec 32 :=
  v257

def k0_off33 (i : grid0.Coords) (v257 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_126 : BitVec 32 := 24#32
  let v255 : BitVec 32 := Scalar.addi v2 c24_i32_126
  let v258 : BitVec 32 := v257
  ![v255.toNat, v258.toNat]
def k0_mult32 (v265 : BitVec 32) : BitVec 32 :=
  v265

def k0_off34 (i : grid0.Coords) (v265 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_130 : BitVec 32 := 24#32
  let v263 : BitVec 32 := Scalar.addi v2 c24_i32_130
  let v266 : BitVec 32 := v265
  ![v263.toNat, v266.toNat]

def k0_chk32 (i : grid0.Coords) (v265 : BitVec 32) : Prop :=
  (128 ∣ (k0_mult32 v265).toNat) ∧
  (∀ a, (k0_off34 i v265) a + S8x128.size a ≤ S1024x100096.size a)
theorem k0_mult32_dvd : ∀ (i : grid0.Coords) (v265 : BitVec 32) (k0_hw32 : k0_chk32 i v265), 128 ∣ (k0_mult32 v265).toNat := fun i v265 k0_hw32 => k0_hw32.1
theorem k0_off34_inb : ∀ (i : grid0.Coords) (v265 : BitVec 32) (k0_hw32 : k0_chk32 i v265), ∀ a, (k0_off34 i v265) a + S8x128.size a ≤ S1024x100096.size a := fun i v265 k0_hw32 => k0_hw32.2

def k0_off35 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_134 : BitVec 32 := 0#32
  ![v2.toNat, 0]
def k0_off36 (i : grid0.Coords) (v12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_2 : BitVec 32 := 0#32
  let v10 : BitVec 32 := Scalar.addi v2 c0_i32_2
  let v13 : BitVec 32 := v12
  ![v10.toNat, v13.toNat]

def k0_chk1 (i : grid0.Coords) (v12 : BitVec 32) : Prop :=
  (128 ∣ (k0_mult1 v12).toNat) ∧
  (∀ a, (k0_off3 i v12) a + S8x128.size a ≤ S1024x100096.size a) ∧
  (∀ a, (k0_off36 i v12) a + S8x128.size a ≤ S1024x100096.size a)
theorem k0_mult1_dvd : ∀ (i : grid0.Coords) (v12 : BitVec 32) (k0_hw1 : k0_chk1 i v12), 128 ∣ (k0_mult1 v12).toNat := fun i v12 k0_hw1 => k0_hw1.1
theorem k0_off3_inb : ∀ (i : grid0.Coords) (v12 : BitVec 32) (k0_hw1 : k0_chk1 i v12), ∀ a, (k0_off3 i v12) a + S8x128.size a ≤ S1024x100096.size a := fun i v12 k0_hw1 => k0_hw1.2.1
theorem k0_off36_inb : ∀ (i : grid0.Coords) (v12 : BitVec 32) (k0_hw1 : k0_chk1 i v12), ∀ a, (k0_off36 i v12) a + S8x128.size a ≤ S1024x100096.size a := fun i v12 k0_hw1 => k0_hw1.2.2

def k0_off37 (i : grid0.Coords) (v20 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_7 : BitVec 32 := 0#32
  let v18 : BitVec 32 := Scalar.addi v2 c0_i32_7
  let v21 : BitVec 32 := v20
  ![v18.toNat, v21.toNat]

def k0_chk2 (i : grid0.Coords) (v20 : BitVec 32) : Prop :=
  (128 ∣ (k0_mult2 v20).toNat) ∧
  (∀ a, (k0_off4 i v20) a + S8x128.size a ≤ S1024x100096.size a) ∧
  (∀ a, (k0_off37 i v20) a + S8x128.size a ≤ S1024x100096.size a)
theorem k0_mult2_dvd : ∀ (i : grid0.Coords) (v20 : BitVec 32) (k0_hw2 : k0_chk2 i v20), 128 ∣ (k0_mult2 v20).toNat := fun i v20 k0_hw2 => k0_hw2.1
theorem k0_off4_inb : ∀ (i : grid0.Coords) (v20 : BitVec 32) (k0_hw2 : k0_chk2 i v20), ∀ a, (k0_off4 i v20) a + S8x128.size a ≤ S1024x100096.size a := fun i v20 k0_hw2 => k0_hw2.2.1
theorem k0_off37_inb : ∀ (i : grid0.Coords) (v20 : BitVec 32) (k0_hw2 : k0_chk2 i v20), ∀ a, (k0_off37 i v20) a + S8x128.size a ≤ S1024x100096.size a := fun i v20 k0_hw2 => k0_hw2.2.2

def k0_off38 (i : grid0.Coords) (v28 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_11 : BitVec 32 := 0#32
  let v26 : BitVec 32 := Scalar.addi v2 c0_i32_11
  let v29 : BitVec 32 := v28
  ![v26.toNat, v29.toNat]

def k0_chk3 (i : grid0.Coords) (v28 : BitVec 32) : Prop :=
  (128 ∣ (k0_mult3 v28).toNat) ∧
  (∀ a, (k0_off5 i v28) a + S8x128.size a ≤ S1024x100096.size a) ∧
  (∀ a, (k0_off38 i v28) a + S8x128.size a ≤ S1024x100096.size a)
theorem k0_mult3_dvd : ∀ (i : grid0.Coords) (v28 : BitVec 32) (k0_hw3 : k0_chk3 i v28), 128 ∣ (k0_mult3 v28).toNat := fun i v28 k0_hw3 => k0_hw3.1
theorem k0_off5_inb : ∀ (i : grid0.Coords) (v28 : BitVec 32) (k0_hw3 : k0_chk3 i v28), ∀ a, (k0_off5 i v28) a + S8x128.size a ≤ S1024x100096.size a := fun i v28 k0_hw3 => k0_hw3.2.1
theorem k0_off38_inb : ∀ (i : grid0.Coords) (v28 : BitVec 32) (k0_hw3 : k0_chk3 i v28), ∀ a, (k0_off38 i v28) a + S8x128.size a ≤ S1024x100096.size a := fun i v28 k0_hw3 => k0_hw3.2.2

def k0_off39 (i : grid0.Coords) (v36 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_15 : BitVec 32 := 0#32
  let v34 : BitVec 32 := Scalar.addi v2 c0_i32_15
  let v37 : BitVec 32 := v36
  ![v34.toNat, v37.toNat]

def k0_chk4 (i : grid0.Coords) (v36 : BitVec 32) : Prop :=
  (128 ∣ (k0_mult4 v36).toNat) ∧
  (∀ a, (k0_off6 i v36) a + S8x128.size a ≤ S1024x100096.size a) ∧
  (∀ a, (k0_off39 i v36) a + S8x128.size a ≤ S1024x100096.size a)
theorem k0_mult4_dvd : ∀ (i : grid0.Coords) (v36 : BitVec 32) (k0_hw4 : k0_chk4 i v36), 128 ∣ (k0_mult4 v36).toNat := fun i v36 k0_hw4 => k0_hw4.1
theorem k0_off6_inb : ∀ (i : grid0.Coords) (v36 : BitVec 32) (k0_hw4 : k0_chk4 i v36), ∀ a, (k0_off6 i v36) a + S8x128.size a ≤ S1024x100096.size a := fun i v36 k0_hw4 => k0_hw4.2.1
theorem k0_off39_inb : ∀ (i : grid0.Coords) (v36 : BitVec 32) (k0_hw4 : k0_chk4 i v36), ∀ a, (k0_off39 i v36) a + S8x128.size a ≤ S1024x100096.size a := fun i v36 k0_hw4 => k0_hw4.2.2

def k0_off40 (i : grid0.Coords) (v44 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_19 : BitVec 32 := 0#32
  let v42 : BitVec 32 := Scalar.addi v2 c0_i32_19
  let v45 : BitVec 32 := v44
  ![v42.toNat, v45.toNat]

def k0_chk5 (i : grid0.Coords) (v44 : BitVec 32) : Prop :=
  (128 ∣ (k0_mult5 v44).toNat) ∧
  (∀ a, (k0_off7 i v44) a + S8x128.size a ≤ S1024x100096.size a) ∧
  (∀ a, (k0_off40 i v44) a + S8x128.size a ≤ S1024x100096.size a)
theorem k0_mult5_dvd : ∀ (i : grid0.Coords) (v44 : BitVec 32) (k0_hw5 : k0_chk5 i v44), 128 ∣ (k0_mult5 v44).toNat := fun i v44 k0_hw5 => k0_hw5.1
theorem k0_off7_inb : ∀ (i : grid0.Coords) (v44 : BitVec 32) (k0_hw5 : k0_chk5 i v44), ∀ a, (k0_off7 i v44) a + S8x128.size a ≤ S1024x100096.size a := fun i v44 k0_hw5 => k0_hw5.2.1
theorem k0_off40_inb : ∀ (i : grid0.Coords) (v44 : BitVec 32) (k0_hw5 : k0_chk5 i v44), ∀ a, (k0_off40 i v44) a + S8x128.size a ≤ S1024x100096.size a := fun i v44 k0_hw5 => k0_hw5.2.2

def k0_off41 (i : grid0.Coords) (v52 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_24 : BitVec 32 := 0#32
  let v50 : BitVec 32 := Scalar.addi v2 c0_i32_24
  let v53 : BitVec 32 := v52
  ![v50.toNat, v53.toNat]

def k0_chk6 (i : grid0.Coords) (v52 : BitVec 32) : Prop :=
  (128 ∣ (k0_mult6 v52).toNat) ∧
  (∀ a, (k0_off8 i v52) a + S8x128.size a ≤ S1024x100096.size a) ∧
  (∀ a, (k0_off41 i v52) a + S8x128.size a ≤ S1024x100096.size a)
theorem k0_mult6_dvd : ∀ (i : grid0.Coords) (v52 : BitVec 32) (k0_hw6 : k0_chk6 i v52), 128 ∣ (k0_mult6 v52).toNat := fun i v52 k0_hw6 => k0_hw6.1
theorem k0_off8_inb : ∀ (i : grid0.Coords) (v52 : BitVec 32) (k0_hw6 : k0_chk6 i v52), ∀ a, (k0_off8 i v52) a + S8x128.size a ≤ S1024x100096.size a := fun i v52 k0_hw6 => k0_hw6.2.1
theorem k0_off41_inb : ∀ (i : grid0.Coords) (v52 : BitVec 32) (k0_hw6 : k0_chk6 i v52), ∀ a, (k0_off41 i v52) a + S8x128.size a ≤ S1024x100096.size a := fun i v52 k0_hw6 => k0_hw6.2.2

def k0_off42 (i : grid0.Coords) (v60 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_28 : BitVec 32 := 0#32
  let v58 : BitVec 32 := Scalar.addi v2 c0_i32_28
  let v61 : BitVec 32 := v60
  ![v58.toNat, v61.toNat]

def k0_chk7 (i : grid0.Coords) (v60 : BitVec 32) : Prop :=
  (128 ∣ (k0_mult7 v60).toNat) ∧
  (∀ a, (k0_off9 i v60) a + S8x128.size a ≤ S1024x100096.size a) ∧
  (∀ a, (k0_off42 i v60) a + S8x128.size a ≤ S1024x100096.size a)
theorem k0_mult7_dvd : ∀ (i : grid0.Coords) (v60 : BitVec 32) (k0_hw7 : k0_chk7 i v60), 128 ∣ (k0_mult7 v60).toNat := fun i v60 k0_hw7 => k0_hw7.1
theorem k0_off9_inb : ∀ (i : grid0.Coords) (v60 : BitVec 32) (k0_hw7 : k0_chk7 i v60), ∀ a, (k0_off9 i v60) a + S8x128.size a ≤ S1024x100096.size a := fun i v60 k0_hw7 => k0_hw7.2.1
theorem k0_off42_inb : ∀ (i : grid0.Coords) (v60 : BitVec 32) (k0_hw7 : k0_chk7 i v60), ∀ a, (k0_off42 i v60) a + S8x128.size a ≤ S1024x100096.size a := fun i v60 k0_hw7 => k0_hw7.2.2

def k0_off43 (i : grid0.Coords) (v68 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_32 : BitVec 32 := 0#32
  let v66 : BitVec 32 := Scalar.addi v2 c0_i32_32
  let v69 : BitVec 32 := v68
  ![v66.toNat, v69.toNat]

def k0_chk8 (i : grid0.Coords) (v68 : BitVec 32) : Prop :=
  (128 ∣ (k0_mult8 v68).toNat) ∧
  (∀ a, (k0_off10 i v68) a + S8x128.size a ≤ S1024x100096.size a) ∧
  (∀ a, (k0_off43 i v68) a + S8x128.size a ≤ S1024x100096.size a)
theorem k0_mult8_dvd : ∀ (i : grid0.Coords) (v68 : BitVec 32) (k0_hw8 : k0_chk8 i v68), 128 ∣ (k0_mult8 v68).toNat := fun i v68 k0_hw8 => k0_hw8.1
theorem k0_off10_inb : ∀ (i : grid0.Coords) (v68 : BitVec 32) (k0_hw8 : k0_chk8 i v68), ∀ a, (k0_off10 i v68) a + S8x128.size a ≤ S1024x100096.size a := fun i v68 k0_hw8 => k0_hw8.2.1
theorem k0_off43_inb : ∀ (i : grid0.Coords) (v68 : BitVec 32) (k0_hw8 : k0_chk8 i v68), ∀ a, (k0_off43 i v68) a + S8x128.size a ≤ S1024x100096.size a := fun i v68 k0_hw8 => k0_hw8.2.2

def k0_off44 (i : grid0.Coords) (v76 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_36 : BitVec 32 := 8#32
  let v74 : BitVec 32 := Scalar.addi v2 c8_i32_36
  let v77 : BitVec 32 := v76
  ![v74.toNat, v77.toNat]

def k0_chk9 (i : grid0.Coords) (v76 : BitVec 32) : Prop :=
  (128 ∣ (k0_mult9 v76).toNat) ∧
  (∀ a, (k0_off11 i v76) a + S8x128.size a ≤ S1024x100096.size a) ∧
  (∀ a, (k0_off44 i v76) a + S8x128.size a ≤ S1024x100096.size a)
theorem k0_mult9_dvd : ∀ (i : grid0.Coords) (v76 : BitVec 32) (k0_hw9 : k0_chk9 i v76), 128 ∣ (k0_mult9 v76).toNat := fun i v76 k0_hw9 => k0_hw9.1
theorem k0_off11_inb : ∀ (i : grid0.Coords) (v76 : BitVec 32) (k0_hw9 : k0_chk9 i v76), ∀ a, (k0_off11 i v76) a + S8x128.size a ≤ S1024x100096.size a := fun i v76 k0_hw9 => k0_hw9.2.1
theorem k0_off44_inb : ∀ (i : grid0.Coords) (v76 : BitVec 32) (k0_hw9 : k0_chk9 i v76), ∀ a, (k0_off44 i v76) a + S8x128.size a ≤ S1024x100096.size a := fun i v76 k0_hw9 => k0_hw9.2.2

def k0_off45 (i : grid0.Coords) (v84 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_40 : BitVec 32 := 8#32
  let v82 : BitVec 32 := Scalar.addi v2 c8_i32_40
  let v85 : BitVec 32 := v84
  ![v82.toNat, v85.toNat]

def k0_chk10 (i : grid0.Coords) (v84 : BitVec 32) : Prop :=
  (128 ∣ (k0_mult10 v84).toNat) ∧
  (∀ a, (k0_off12 i v84) a + S8x128.size a ≤ S1024x100096.size a) ∧
  (∀ a, (k0_off45 i v84) a + S8x128.size a ≤ S1024x100096.size a)
theorem k0_mult10_dvd : ∀ (i : grid0.Coords) (v84 : BitVec 32) (k0_hw10 : k0_chk10 i v84), 128 ∣ (k0_mult10 v84).toNat := fun i v84 k0_hw10 => k0_hw10.1
theorem k0_off12_inb : ∀ (i : grid0.Coords) (v84 : BitVec 32) (k0_hw10 : k0_chk10 i v84), ∀ a, (k0_off12 i v84) a + S8x128.size a ≤ S1024x100096.size a := fun i v84 k0_hw10 => k0_hw10.2.1
theorem k0_off45_inb : ∀ (i : grid0.Coords) (v84 : BitVec 32) (k0_hw10 : k0_chk10 i v84), ∀ a, (k0_off45 i v84) a + S8x128.size a ≤ S1024x100096.size a := fun i v84 k0_hw10 => k0_hw10.2.2

def k0_off46 (i : grid0.Coords) (v92 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_44 : BitVec 32 := 8#32
  let v90 : BitVec 32 := Scalar.addi v2 c8_i32_44
  let v93 : BitVec 32 := v92
  ![v90.toNat, v93.toNat]

def k0_chk11 (i : grid0.Coords) (v92 : BitVec 32) : Prop :=
  (128 ∣ (k0_mult11 v92).toNat) ∧
  (∀ a, (k0_off13 i v92) a + S8x128.size a ≤ S1024x100096.size a) ∧
  (∀ a, (k0_off46 i v92) a + S8x128.size a ≤ S1024x100096.size a)
theorem k0_mult11_dvd : ∀ (i : grid0.Coords) (v92 : BitVec 32) (k0_hw11 : k0_chk11 i v92), 128 ∣ (k0_mult11 v92).toNat := fun i v92 k0_hw11 => k0_hw11.1
theorem k0_off13_inb : ∀ (i : grid0.Coords) (v92 : BitVec 32) (k0_hw11 : k0_chk11 i v92), ∀ a, (k0_off13 i v92) a + S8x128.size a ≤ S1024x100096.size a := fun i v92 k0_hw11 => k0_hw11.2.1
theorem k0_off46_inb : ∀ (i : grid0.Coords) (v92 : BitVec 32) (k0_hw11 : k0_chk11 i v92), ∀ a, (k0_off46 i v92) a + S8x128.size a ≤ S1024x100096.size a := fun i v92 k0_hw11 => k0_hw11.2.2

def k0_off47 (i : grid0.Coords) (v100 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_48 : BitVec 32 := 8#32
  let v98 : BitVec 32 := Scalar.addi v2 c8_i32_48
  let v101 : BitVec 32 := v100
  ![v98.toNat, v101.toNat]

def k0_chk12 (i : grid0.Coords) (v100 : BitVec 32) : Prop :=
  (128 ∣ (k0_mult12 v100).toNat) ∧
  (∀ a, (k0_off14 i v100) a + S8x128.size a ≤ S1024x100096.size a) ∧
  (∀ a, (k0_off47 i v100) a + S8x128.size a ≤ S1024x100096.size a)
theorem k0_mult12_dvd : ∀ (i : grid0.Coords) (v100 : BitVec 32) (k0_hw12 : k0_chk12 i v100), 128 ∣ (k0_mult12 v100).toNat := fun i v100 k0_hw12 => k0_hw12.1
theorem k0_off14_inb : ∀ (i : grid0.Coords) (v100 : BitVec 32) (k0_hw12 : k0_chk12 i v100), ∀ a, (k0_off14 i v100) a + S8x128.size a ≤ S1024x100096.size a := fun i v100 k0_hw12 => k0_hw12.2.1
theorem k0_off47_inb : ∀ (i : grid0.Coords) (v100 : BitVec 32) (k0_hw12 : k0_chk12 i v100), ∀ a, (k0_off47 i v100) a + S8x128.size a ≤ S1024x100096.size a := fun i v100 k0_hw12 => k0_hw12.2.2

def k0_off48 (i : grid0.Coords) (v108 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_52 : BitVec 32 := 8#32
  let v106 : BitVec 32 := Scalar.addi v2 c8_i32_52
  let v109 : BitVec 32 := v108
  ![v106.toNat, v109.toNat]

def k0_chk13 (i : grid0.Coords) (v108 : BitVec 32) : Prop :=
  (128 ∣ (k0_mult13 v108).toNat) ∧
  (∀ a, (k0_off15 i v108) a + S8x128.size a ≤ S1024x100096.size a) ∧
  (∀ a, (k0_off48 i v108) a + S8x128.size a ≤ S1024x100096.size a)
theorem k0_mult13_dvd : ∀ (i : grid0.Coords) (v108 : BitVec 32) (k0_hw13 : k0_chk13 i v108), 128 ∣ (k0_mult13 v108).toNat := fun i v108 k0_hw13 => k0_hw13.1
theorem k0_off15_inb : ∀ (i : grid0.Coords) (v108 : BitVec 32) (k0_hw13 : k0_chk13 i v108), ∀ a, (k0_off15 i v108) a + S8x128.size a ≤ S1024x100096.size a := fun i v108 k0_hw13 => k0_hw13.2.1
theorem k0_off48_inb : ∀ (i : grid0.Coords) (v108 : BitVec 32) (k0_hw13 : k0_chk13 i v108), ∀ a, (k0_off48 i v108) a + S8x128.size a ≤ S1024x100096.size a := fun i v108 k0_hw13 => k0_hw13.2.2

def k0_off49 (i : grid0.Coords) (v116 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_56 : BitVec 32 := 8#32
  let v114 : BitVec 32 := Scalar.addi v2 c8_i32_56
  let v117 : BitVec 32 := v116
  ![v114.toNat, v117.toNat]

def k0_chk14 (i : grid0.Coords) (v116 : BitVec 32) : Prop :=
  (128 ∣ (k0_mult14 v116).toNat) ∧
  (∀ a, (k0_off16 i v116) a + S8x128.size a ≤ S1024x100096.size a) ∧
  (∀ a, (k0_off49 i v116) a + S8x128.size a ≤ S1024x100096.size a)
theorem k0_mult14_dvd : ∀ (i : grid0.Coords) (v116 : BitVec 32) (k0_hw14 : k0_chk14 i v116), 128 ∣ (k0_mult14 v116).toNat := fun i v116 k0_hw14 => k0_hw14.1
theorem k0_off16_inb : ∀ (i : grid0.Coords) (v116 : BitVec 32) (k0_hw14 : k0_chk14 i v116), ∀ a, (k0_off16 i v116) a + S8x128.size a ≤ S1024x100096.size a := fun i v116 k0_hw14 => k0_hw14.2.1
theorem k0_off49_inb : ∀ (i : grid0.Coords) (v116 : BitVec 32) (k0_hw14 : k0_chk14 i v116), ∀ a, (k0_off49 i v116) a + S8x128.size a ≤ S1024x100096.size a := fun i v116 k0_hw14 => k0_hw14.2.2

def k0_off50 (i : grid0.Coords) (v124 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_60 : BitVec 32 := 8#32
  let v122 : BitVec 32 := Scalar.addi v2 c8_i32_60
  let v125 : BitVec 32 := v124
  ![v122.toNat, v125.toNat]

def k0_chk15 (i : grid0.Coords) (v124 : BitVec 32) : Prop :=
  (128 ∣ (k0_mult15 v124).toNat) ∧
  (∀ a, (k0_off17 i v124) a + S8x128.size a ≤ S1024x100096.size a) ∧
  (∀ a, (k0_off50 i v124) a + S8x128.size a ≤ S1024x100096.size a)
theorem k0_mult15_dvd : ∀ (i : grid0.Coords) (v124 : BitVec 32) (k0_hw15 : k0_chk15 i v124), 128 ∣ (k0_mult15 v124).toNat := fun i v124 k0_hw15 => k0_hw15.1
theorem k0_off17_inb : ∀ (i : grid0.Coords) (v124 : BitVec 32) (k0_hw15 : k0_chk15 i v124), ∀ a, (k0_off17 i v124) a + S8x128.size a ≤ S1024x100096.size a := fun i v124 k0_hw15 => k0_hw15.2.1
theorem k0_off50_inb : ∀ (i : grid0.Coords) (v124 : BitVec 32) (k0_hw15 : k0_chk15 i v124), ∀ a, (k0_off50 i v124) a + S8x128.size a ≤ S1024x100096.size a := fun i v124 k0_hw15 => k0_hw15.2.2

def k0_off51 (i : grid0.Coords) (v132 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c8_i32_64 : BitVec 32 := 8#32
  let v130 : BitVec 32 := Scalar.addi v2 c8_i32_64
  let v133 : BitVec 32 := v132
  ![v130.toNat, v133.toNat]

def k0_chk16 (i : grid0.Coords) (v132 : BitVec 32) : Prop :=
  (128 ∣ (k0_mult16 v132).toNat) ∧
  (∀ a, (k0_off18 i v132) a + S8x128.size a ≤ S1024x100096.size a) ∧
  (∀ a, (k0_off51 i v132) a + S8x128.size a ≤ S1024x100096.size a)
theorem k0_mult16_dvd : ∀ (i : grid0.Coords) (v132 : BitVec 32) (k0_hw16 : k0_chk16 i v132), 128 ∣ (k0_mult16 v132).toNat := fun i v132 k0_hw16 => k0_hw16.1
theorem k0_off18_inb : ∀ (i : grid0.Coords) (v132 : BitVec 32) (k0_hw16 : k0_chk16 i v132), ∀ a, (k0_off18 i v132) a + S8x128.size a ≤ S1024x100096.size a := fun i v132 k0_hw16 => k0_hw16.2.1
theorem k0_off51_inb : ∀ (i : grid0.Coords) (v132 : BitVec 32) (k0_hw16 : k0_chk16 i v132), ∀ a, (k0_off51 i v132) a + S8x128.size a ≤ S1024x100096.size a := fun i v132 k0_hw16 => k0_hw16.2.2

def k0_off52 (i : grid0.Coords) (v145 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_70 : BitVec 32 := 16#32
  let v143 : BitVec 32 := Scalar.addi v2 c16_i32_70
  let v146 : BitVec 32 := v145
  ![v143.toNat, v146.toNat]

def k0_chk17 (i : grid0.Coords) (v145 : BitVec 32) : Prop :=
  (128 ∣ (k0_mult17 v145).toNat) ∧
  (∀ a, (k0_off19 i v145) a + S8x128.size a ≤ S1024x100096.size a) ∧
  (∀ a, (k0_off52 i v145) a + S8x128.size a ≤ S1024x100096.size a)
theorem k0_mult17_dvd : ∀ (i : grid0.Coords) (v145 : BitVec 32) (k0_hw17 : k0_chk17 i v145), 128 ∣ (k0_mult17 v145).toNat := fun i v145 k0_hw17 => k0_hw17.1
theorem k0_off19_inb : ∀ (i : grid0.Coords) (v145 : BitVec 32) (k0_hw17 : k0_chk17 i v145), ∀ a, (k0_off19 i v145) a + S8x128.size a ≤ S1024x100096.size a := fun i v145 k0_hw17 => k0_hw17.2.1
theorem k0_off52_inb : ∀ (i : grid0.Coords) (v145 : BitVec 32) (k0_hw17 : k0_chk17 i v145), ∀ a, (k0_off52 i v145) a + S8x128.size a ≤ S1024x100096.size a := fun i v145 k0_hw17 => k0_hw17.2.2

def k0_off53 (i : grid0.Coords) (v153 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_74 : BitVec 32 := 16#32
  let v151 : BitVec 32 := Scalar.addi v2 c16_i32_74
  let v154 : BitVec 32 := v153
  ![v151.toNat, v154.toNat]

def k0_chk18 (i : grid0.Coords) (v153 : BitVec 32) : Prop :=
  (128 ∣ (k0_mult18 v153).toNat) ∧
  (∀ a, (k0_off20 i v153) a + S8x128.size a ≤ S1024x100096.size a) ∧
  (∀ a, (k0_off53 i v153) a + S8x128.size a ≤ S1024x100096.size a)
theorem k0_mult18_dvd : ∀ (i : grid0.Coords) (v153 : BitVec 32) (k0_hw18 : k0_chk18 i v153), 128 ∣ (k0_mult18 v153).toNat := fun i v153 k0_hw18 => k0_hw18.1
theorem k0_off20_inb : ∀ (i : grid0.Coords) (v153 : BitVec 32) (k0_hw18 : k0_chk18 i v153), ∀ a, (k0_off20 i v153) a + S8x128.size a ≤ S1024x100096.size a := fun i v153 k0_hw18 => k0_hw18.2.1
theorem k0_off53_inb : ∀ (i : grid0.Coords) (v153 : BitVec 32) (k0_hw18 : k0_chk18 i v153), ∀ a, (k0_off53 i v153) a + S8x128.size a ≤ S1024x100096.size a := fun i v153 k0_hw18 => k0_hw18.2.2

def k0_off54 (i : grid0.Coords) (v161 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_78 : BitVec 32 := 16#32
  let v159 : BitVec 32 := Scalar.addi v2 c16_i32_78
  let v162 : BitVec 32 := v161
  ![v159.toNat, v162.toNat]

def k0_chk19 (i : grid0.Coords) (v161 : BitVec 32) : Prop :=
  (128 ∣ (k0_mult19 v161).toNat) ∧
  (∀ a, (k0_off21 i v161) a + S8x128.size a ≤ S1024x100096.size a) ∧
  (∀ a, (k0_off54 i v161) a + S8x128.size a ≤ S1024x100096.size a)
theorem k0_mult19_dvd : ∀ (i : grid0.Coords) (v161 : BitVec 32) (k0_hw19 : k0_chk19 i v161), 128 ∣ (k0_mult19 v161).toNat := fun i v161 k0_hw19 => k0_hw19.1
theorem k0_off21_inb : ∀ (i : grid0.Coords) (v161 : BitVec 32) (k0_hw19 : k0_chk19 i v161), ∀ a, (k0_off21 i v161) a + S8x128.size a ≤ S1024x100096.size a := fun i v161 k0_hw19 => k0_hw19.2.1
theorem k0_off54_inb : ∀ (i : grid0.Coords) (v161 : BitVec 32) (k0_hw19 : k0_chk19 i v161), ∀ a, (k0_off54 i v161) a + S8x128.size a ≤ S1024x100096.size a := fun i v161 k0_hw19 => k0_hw19.2.2

def k0_off55 (i : grid0.Coords) (v169 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_82 : BitVec 32 := 16#32
  let v167 : BitVec 32 := Scalar.addi v2 c16_i32_82
  let v170 : BitVec 32 := v169
  ![v167.toNat, v170.toNat]

def k0_chk20 (i : grid0.Coords) (v169 : BitVec 32) : Prop :=
  (128 ∣ (k0_mult20 v169).toNat) ∧
  (∀ a, (k0_off22 i v169) a + S8x128.size a ≤ S1024x100096.size a) ∧
  (∀ a, (k0_off55 i v169) a + S8x128.size a ≤ S1024x100096.size a)
theorem k0_mult20_dvd : ∀ (i : grid0.Coords) (v169 : BitVec 32) (k0_hw20 : k0_chk20 i v169), 128 ∣ (k0_mult20 v169).toNat := fun i v169 k0_hw20 => k0_hw20.1
theorem k0_off22_inb : ∀ (i : grid0.Coords) (v169 : BitVec 32) (k0_hw20 : k0_chk20 i v169), ∀ a, (k0_off22 i v169) a + S8x128.size a ≤ S1024x100096.size a := fun i v169 k0_hw20 => k0_hw20.2.1
theorem k0_off55_inb : ∀ (i : grid0.Coords) (v169 : BitVec 32) (k0_hw20 : k0_chk20 i v169), ∀ a, (k0_off55 i v169) a + S8x128.size a ≤ S1024x100096.size a := fun i v169 k0_hw20 => k0_hw20.2.2

def k0_off56 (i : grid0.Coords) (v177 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_86 : BitVec 32 := 16#32
  let v175 : BitVec 32 := Scalar.addi v2 c16_i32_86
  let v178 : BitVec 32 := v177
  ![v175.toNat, v178.toNat]

def k0_chk21 (i : grid0.Coords) (v177 : BitVec 32) : Prop :=
  (128 ∣ (k0_mult21 v177).toNat) ∧
  (∀ a, (k0_off23 i v177) a + S8x128.size a ≤ S1024x100096.size a) ∧
  (∀ a, (k0_off56 i v177) a + S8x128.size a ≤ S1024x100096.size a)
theorem k0_mult21_dvd : ∀ (i : grid0.Coords) (v177 : BitVec 32) (k0_hw21 : k0_chk21 i v177), 128 ∣ (k0_mult21 v177).toNat := fun i v177 k0_hw21 => k0_hw21.1
theorem k0_off23_inb : ∀ (i : grid0.Coords) (v177 : BitVec 32) (k0_hw21 : k0_chk21 i v177), ∀ a, (k0_off23 i v177) a + S8x128.size a ≤ S1024x100096.size a := fun i v177 k0_hw21 => k0_hw21.2.1
theorem k0_off56_inb : ∀ (i : grid0.Coords) (v177 : BitVec 32) (k0_hw21 : k0_chk21 i v177), ∀ a, (k0_off56 i v177) a + S8x128.size a ≤ S1024x100096.size a := fun i v177 k0_hw21 => k0_hw21.2.2

def k0_off57 (i : grid0.Coords) (v185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_90 : BitVec 32 := 16#32
  let v183 : BitVec 32 := Scalar.addi v2 c16_i32_90
  let v186 : BitVec 32 := v185
  ![v183.toNat, v186.toNat]

def k0_chk22 (i : grid0.Coords) (v185 : BitVec 32) : Prop :=
  (128 ∣ (k0_mult22 v185).toNat) ∧
  (∀ a, (k0_off24 i v185) a + S8x128.size a ≤ S1024x100096.size a) ∧
  (∀ a, (k0_off57 i v185) a + S8x128.size a ≤ S1024x100096.size a)
theorem k0_mult22_dvd : ∀ (i : grid0.Coords) (v185 : BitVec 32) (k0_hw22 : k0_chk22 i v185), 128 ∣ (k0_mult22 v185).toNat := fun i v185 k0_hw22 => k0_hw22.1
theorem k0_off24_inb : ∀ (i : grid0.Coords) (v185 : BitVec 32) (k0_hw22 : k0_chk22 i v185), ∀ a, (k0_off24 i v185) a + S8x128.size a ≤ S1024x100096.size a := fun i v185 k0_hw22 => k0_hw22.2.1
theorem k0_off57_inb : ∀ (i : grid0.Coords) (v185 : BitVec 32) (k0_hw22 : k0_chk22 i v185), ∀ a, (k0_off57 i v185) a + S8x128.size a ≤ S1024x100096.size a := fun i v185 k0_hw22 => k0_hw22.2.2

def k0_off58 (i : grid0.Coords) (v193 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_94 : BitVec 32 := 16#32
  let v191 : BitVec 32 := Scalar.addi v2 c16_i32_94
  let v194 : BitVec 32 := v193
  ![v191.toNat, v194.toNat]

def k0_chk23 (i : grid0.Coords) (v193 : BitVec 32) : Prop :=
  (128 ∣ (k0_mult23 v193).toNat) ∧
  (∀ a, (k0_off25 i v193) a + S8x128.size a ≤ S1024x100096.size a) ∧
  (∀ a, (k0_off58 i v193) a + S8x128.size a ≤ S1024x100096.size a)
theorem k0_mult23_dvd : ∀ (i : grid0.Coords) (v193 : BitVec 32) (k0_hw23 : k0_chk23 i v193), 128 ∣ (k0_mult23 v193).toNat := fun i v193 k0_hw23 => k0_hw23.1
theorem k0_off25_inb : ∀ (i : grid0.Coords) (v193 : BitVec 32) (k0_hw23 : k0_chk23 i v193), ∀ a, (k0_off25 i v193) a + S8x128.size a ≤ S1024x100096.size a := fun i v193 k0_hw23 => k0_hw23.2.1
theorem k0_off58_inb : ∀ (i : grid0.Coords) (v193 : BitVec 32) (k0_hw23 : k0_chk23 i v193), ∀ a, (k0_off58 i v193) a + S8x128.size a ≤ S1024x100096.size a := fun i v193 k0_hw23 => k0_hw23.2.2

def k0_off59 (i : grid0.Coords) (v201 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c16_i32_98 : BitVec 32 := 16#32
  let v199 : BitVec 32 := Scalar.addi v2 c16_i32_98
  let v202 : BitVec 32 := v201
  ![v199.toNat, v202.toNat]

def k0_chk24 (i : grid0.Coords) (v201 : BitVec 32) : Prop :=
  (128 ∣ (k0_mult24 v201).toNat) ∧
  (∀ a, (k0_off26 i v201) a + S8x128.size a ≤ S1024x100096.size a) ∧
  (∀ a, (k0_off59 i v201) a + S8x128.size a ≤ S1024x100096.size a)
theorem k0_mult24_dvd : ∀ (i : grid0.Coords) (v201 : BitVec 32) (k0_hw24 : k0_chk24 i v201), 128 ∣ (k0_mult24 v201).toNat := fun i v201 k0_hw24 => k0_hw24.1
theorem k0_off26_inb : ∀ (i : grid0.Coords) (v201 : BitVec 32) (k0_hw24 : k0_chk24 i v201), ∀ a, (k0_off26 i v201) a + S8x128.size a ≤ S1024x100096.size a := fun i v201 k0_hw24 => k0_hw24.2.1
theorem k0_off59_inb : ∀ (i : grid0.Coords) (v201 : BitVec 32) (k0_hw24 : k0_chk24 i v201), ∀ a, (k0_off59 i v201) a + S8x128.size a ≤ S1024x100096.size a := fun i v201 k0_hw24 => k0_hw24.2.2

def k0_off60 (i : grid0.Coords) (v209 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_102 : BitVec 32 := 24#32
  let v207 : BitVec 32 := Scalar.addi v2 c24_i32_102
  let v210 : BitVec 32 := v209
  ![v207.toNat, v210.toNat]

def k0_chk25 (i : grid0.Coords) (v209 : BitVec 32) : Prop :=
  (128 ∣ (k0_mult25 v209).toNat) ∧
  (∀ a, (k0_off27 i v209) a + S8x128.size a ≤ S1024x100096.size a) ∧
  (∀ a, (k0_off60 i v209) a + S8x128.size a ≤ S1024x100096.size a)
theorem k0_mult25_dvd : ∀ (i : grid0.Coords) (v209 : BitVec 32) (k0_hw25 : k0_chk25 i v209), 128 ∣ (k0_mult25 v209).toNat := fun i v209 k0_hw25 => k0_hw25.1
theorem k0_off27_inb : ∀ (i : grid0.Coords) (v209 : BitVec 32) (k0_hw25 : k0_chk25 i v209), ∀ a, (k0_off27 i v209) a + S8x128.size a ≤ S1024x100096.size a := fun i v209 k0_hw25 => k0_hw25.2.1
theorem k0_off60_inb : ∀ (i : grid0.Coords) (v209 : BitVec 32) (k0_hw25 : k0_chk25 i v209), ∀ a, (k0_off60 i v209) a + S8x128.size a ≤ S1024x100096.size a := fun i v209 k0_hw25 => k0_hw25.2.2

def k0_off61 (i : grid0.Coords) (v217 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_106 : BitVec 32 := 24#32
  let v215 : BitVec 32 := Scalar.addi v2 c24_i32_106
  let v218 : BitVec 32 := v217
  ![v215.toNat, v218.toNat]

def k0_chk26 (i : grid0.Coords) (v217 : BitVec 32) : Prop :=
  (128 ∣ (k0_mult26 v217).toNat) ∧
  (∀ a, (k0_off28 i v217) a + S8x128.size a ≤ S1024x100096.size a) ∧
  (∀ a, (k0_off61 i v217) a + S8x128.size a ≤ S1024x100096.size a)
theorem k0_mult26_dvd : ∀ (i : grid0.Coords) (v217 : BitVec 32) (k0_hw26 : k0_chk26 i v217), 128 ∣ (k0_mult26 v217).toNat := fun i v217 k0_hw26 => k0_hw26.1
theorem k0_off28_inb : ∀ (i : grid0.Coords) (v217 : BitVec 32) (k0_hw26 : k0_chk26 i v217), ∀ a, (k0_off28 i v217) a + S8x128.size a ≤ S1024x100096.size a := fun i v217 k0_hw26 => k0_hw26.2.1
theorem k0_off61_inb : ∀ (i : grid0.Coords) (v217 : BitVec 32) (k0_hw26 : k0_chk26 i v217), ∀ a, (k0_off61 i v217) a + S8x128.size a ≤ S1024x100096.size a := fun i v217 k0_hw26 => k0_hw26.2.2

def k0_off62 (i : grid0.Coords) (v225 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_110 : BitVec 32 := 24#32
  let v223 : BitVec 32 := Scalar.addi v2 c24_i32_110
  let v226 : BitVec 32 := v225
  ![v223.toNat, v226.toNat]

def k0_chk27 (i : grid0.Coords) (v225 : BitVec 32) : Prop :=
  (128 ∣ (k0_mult27 v225).toNat) ∧
  (∀ a, (k0_off29 i v225) a + S8x128.size a ≤ S1024x100096.size a) ∧
  (∀ a, (k0_off62 i v225) a + S8x128.size a ≤ S1024x100096.size a)
theorem k0_mult27_dvd : ∀ (i : grid0.Coords) (v225 : BitVec 32) (k0_hw27 : k0_chk27 i v225), 128 ∣ (k0_mult27 v225).toNat := fun i v225 k0_hw27 => k0_hw27.1
theorem k0_off29_inb : ∀ (i : grid0.Coords) (v225 : BitVec 32) (k0_hw27 : k0_chk27 i v225), ∀ a, (k0_off29 i v225) a + S8x128.size a ≤ S1024x100096.size a := fun i v225 k0_hw27 => k0_hw27.2.1
theorem k0_off62_inb : ∀ (i : grid0.Coords) (v225 : BitVec 32) (k0_hw27 : k0_chk27 i v225), ∀ a, (k0_off62 i v225) a + S8x128.size a ≤ S1024x100096.size a := fun i v225 k0_hw27 => k0_hw27.2.2

def k0_off63 (i : grid0.Coords) (v233 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_114 : BitVec 32 := 24#32
  let v231 : BitVec 32 := Scalar.addi v2 c24_i32_114
  let v234 : BitVec 32 := v233
  ![v231.toNat, v234.toNat]

def k0_chk28 (i : grid0.Coords) (v233 : BitVec 32) : Prop :=
  (128 ∣ (k0_mult28 v233).toNat) ∧
  (∀ a, (k0_off30 i v233) a + S8x128.size a ≤ S1024x100096.size a) ∧
  (∀ a, (k0_off63 i v233) a + S8x128.size a ≤ S1024x100096.size a)
theorem k0_mult28_dvd : ∀ (i : grid0.Coords) (v233 : BitVec 32) (k0_hw28 : k0_chk28 i v233), 128 ∣ (k0_mult28 v233).toNat := fun i v233 k0_hw28 => k0_hw28.1
theorem k0_off30_inb : ∀ (i : grid0.Coords) (v233 : BitVec 32) (k0_hw28 : k0_chk28 i v233), ∀ a, (k0_off30 i v233) a + S8x128.size a ≤ S1024x100096.size a := fun i v233 k0_hw28 => k0_hw28.2.1
theorem k0_off63_inb : ∀ (i : grid0.Coords) (v233 : BitVec 32) (k0_hw28 : k0_chk28 i v233), ∀ a, (k0_off63 i v233) a + S8x128.size a ≤ S1024x100096.size a := fun i v233 k0_hw28 => k0_hw28.2.2

def k0_off64 (i : grid0.Coords) (v241 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_118 : BitVec 32 := 24#32
  let v239 : BitVec 32 := Scalar.addi v2 c24_i32_118
  let v242 : BitVec 32 := v241
  ![v239.toNat, v242.toNat]

def k0_chk29 (i : grid0.Coords) (v241 : BitVec 32) : Prop :=
  (128 ∣ (k0_mult29 v241).toNat) ∧
  (∀ a, (k0_off31 i v241) a + S8x128.size a ≤ S1024x100096.size a) ∧
  (∀ a, (k0_off64 i v241) a + S8x128.size a ≤ S1024x100096.size a)
theorem k0_mult29_dvd : ∀ (i : grid0.Coords) (v241 : BitVec 32) (k0_hw29 : k0_chk29 i v241), 128 ∣ (k0_mult29 v241).toNat := fun i v241 k0_hw29 => k0_hw29.1
theorem k0_off31_inb : ∀ (i : grid0.Coords) (v241 : BitVec 32) (k0_hw29 : k0_chk29 i v241), ∀ a, (k0_off31 i v241) a + S8x128.size a ≤ S1024x100096.size a := fun i v241 k0_hw29 => k0_hw29.2.1
theorem k0_off64_inb : ∀ (i : grid0.Coords) (v241 : BitVec 32) (k0_hw29 : k0_chk29 i v241), ∀ a, (k0_off64 i v241) a + S8x128.size a ≤ S1024x100096.size a := fun i v241 k0_hw29 => k0_hw29.2.2

def k0_off65 (i : grid0.Coords) (v249 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_122 : BitVec 32 := 24#32
  let v247 : BitVec 32 := Scalar.addi v2 c24_i32_122
  let v250 : BitVec 32 := v249
  ![v247.toNat, v250.toNat]

def k0_chk30 (i : grid0.Coords) (v249 : BitVec 32) : Prop :=
  (128 ∣ (k0_mult30 v249).toNat) ∧
  (∀ a, (k0_off32 i v249) a + S8x128.size a ≤ S1024x100096.size a) ∧
  (∀ a, (k0_off65 i v249) a + S8x128.size a ≤ S1024x100096.size a)
theorem k0_mult30_dvd : ∀ (i : grid0.Coords) (v249 : BitVec 32) (k0_hw30 : k0_chk30 i v249), 128 ∣ (k0_mult30 v249).toNat := fun i v249 k0_hw30 => k0_hw30.1
theorem k0_off32_inb : ∀ (i : grid0.Coords) (v249 : BitVec 32) (k0_hw30 : k0_chk30 i v249), ∀ a, (k0_off32 i v249) a + S8x128.size a ≤ S1024x100096.size a := fun i v249 k0_hw30 => k0_hw30.2.1
theorem k0_off65_inb : ∀ (i : grid0.Coords) (v249 : BitVec 32) (k0_hw30 : k0_chk30 i v249), ∀ a, (k0_off65 i v249) a + S8x128.size a ≤ S1024x100096.size a := fun i v249 k0_hw30 => k0_hw30.2.2

def k0_off66 (i : grid0.Coords) (v257 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c24_i32_126 : BitVec 32 := 24#32
  let v255 : BitVec 32 := Scalar.addi v2 c24_i32_126
  let v258 : BitVec 32 := v257
  ![v255.toNat, v258.toNat]

def k0_chk31 (i : grid0.Coords) (v257 : BitVec 32) : Prop :=
  (128 ∣ (k0_mult31 v257).toNat) ∧
  (∀ a, (k0_off33 i v257) a + S8x128.size a ≤ S1024x100096.size a) ∧
  (∀ a, (k0_off66 i v257) a + S8x128.size a ≤ S1024x100096.size a)
theorem k0_mult31_dvd : ∀ (i : grid0.Coords) (v257 : BitVec 32) (k0_hw31 : k0_chk31 i v257), 128 ∣ (k0_mult31 v257).toNat := fun i v257 k0_hw31 => k0_hw31.1
theorem k0_off33_inb : ∀ (i : grid0.Coords) (v257 : BitVec 32) (k0_hw31 : k0_chk31 i v257), ∀ a, (k0_off33 i v257) a + S8x128.size a ≤ S1024x100096.size a := fun i v257 k0_hw31 => k0_hw31.2.1
theorem k0_off66_inb : ∀ (i : grid0.Coords) (v257 : BitVec 32) (k0_hw31 : k0_chk31 i v257), ∀ a, (k0_off66 i v257) a + S8x128.size a ≤ S1024x100096.size a := fun i v257 k0_hw31 => k0_hw31.2.2

def k0_chk33 (v411 : IVec S16 32) (v413 : IVec S16 32) : Prop :=
  (∀ a x, ((![v411, v413] : Fin 2 → IVec S16 32) a x).toNat < S256x128.size a)
theorem k0_idx1_inb : ∀ (v411 : IVec S16 32) (v413 : IVec S16 32) (k0_hw33 : k0_chk33 v411 v413), ∀ a x, ((![v411, v413] : Fin 2 → IVec S16 32) a x).toNat < S256x128.size a := fun v411 v413 k0_hw33 => k0_hw33

def k0_chk34 (v403 : IVec S16 32) (v417 : IVec S16 32) : Prop :=
  (∀ a x, ((![v403, v417] : Fin 2 → IVec S16 32) a x).toNat < S32x128.size a)
theorem k0_idx2_inb : ∀ (v403 : IVec S16 32) (v417 : IVec S16 32) (k0_hw34 : k0_chk34 v403 v417), ∀ a x, ((![v403, v417] : Fin 2 → IVec S16 32) a x).toNat < S32x128.size a := fun v403 v417 k0_hw34 => k0_hw34

def k0_chk35 (v429 : IVec S16 32) (v431 : IVec S16 32) : Prop :=
  (∀ a x, ((![v429, v431] : Fin 2 → IVec S16 32) a x).toNat < S256x128.size a)
theorem k0_idx3_inb : ∀ (v429 : IVec S16 32) (v431 : IVec S16 32) (k0_hw35 : k0_chk35 v429 v431), ∀ a x, ((![v429, v431] : Fin 2 → IVec S16 32) a x).toNat < S256x128.size a := fun v429 v431 k0_hw35 => k0_hw35

def k0_chk36 (v421 : IVec S16 32) (v435 : IVec S16 32) : Prop :=
  (∀ a x, ((![v421, v435] : Fin 2 → IVec S16 32) a x).toNat < S32x128.size a)
theorem k0_idx4_inb : ∀ (v421 : IVec S16 32) (v435 : IVec S16 32) (k0_hw36 : k0_chk36 v421 v435), ∀ a x, ((![v421, v435] : Fin 2 → IVec S16 32) a x).toNat < S32x128.size a := fun v421 v435 k0_hw36 => k0_hw36
def k0_off67 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨1, ![49], ![false]⟩

def k1_cond3 (i : grid1.Coords) : BitVec 1 :=
  let arg0 : BitVec 32 := BitVec.ofNat 32 (i 0).val
  let c48_i32_4 : BitVec 32 := 48#32
  let v9 : BitVec 1 := Scalar.cmpi .eq arg0 c48_i32_4
  let v10 : BitVec 32 := Scalar.extui v9
  let c0_i32_5 : BitVec 32 := 0#32
  let v11 : BitVec 1 := Scalar.cmpi .ne v10 c0_i32_5
  v11

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "c1" => some (((1 / 10) * (Real.log (387420489 / 999980000000000)) : ℝ) : EReal)
  | "conf" => some ((9 / 10 : ℝ) : EReal)
  | "smooth" => some ((1 / 999980 : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S100000 : Shape := ⟨1, ![100000]⟩
abbrev S1x100000 : Shape := ⟨2, ![1, 100000]⟩
abbrev S1024x1 : Shape := ⟨2, ![1024, 1]⟩

abbrev nBuf : Space → Nat
  | .hbm => 53
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S100000, .i32⟩
  | .hbm, ⟨8, _⟩ => ⟨S1x100000, .i32⟩
  | .hbm, ⟨9, _⟩ => ⟨S1024x1, .i32⟩
  | .hbm, ⟨10, _⟩ => ⟨S1024x100000, .i32⟩
  | .hbm, ⟨11, _⟩ => ⟨S1024x100000, .i32⟩
  | .hbm, ⟨12, _⟩ => ⟨S1024x100000, .i1⟩
  | .hbm, ⟨13, _⟩ => ⟨S_, .f32⟩
  | .hbm, ⟨14, _⟩ => ⟨S_, .f32⟩
  | .hbm, ⟨15, _⟩ => ⟨S1024x100000, .f32⟩
  | .hbm, ⟨16, _⟩ => ⟨S1024x100000, .f32⟩
  | .hbm, ⟨17, _⟩ => ⟨S1024x100000, .f32⟩
  | .hbm, ⟨18, _⟩ => ⟨S_, .i32⟩
  | .hbm, ⟨19, _⟩ => ⟨S1x100000, .i32⟩
  | .hbm, ⟨20, _⟩ => ⟨S1x100000, .i1⟩
  | .hbm, ⟨21, _⟩ => ⟨S_, .f32⟩
  | .hbm, ⟨22, _⟩ => ⟨S_, .f32⟩
  | .hbm, ⟨23, _⟩ => ⟨S1024x100000, .i1⟩
  | .hbm, ⟨24, _⟩ => ⟨S1024x100000, .f32⟩
  | .hbm, ⟨25, _⟩ => ⟨S1024x100000, .f32⟩
  | .hbm, ⟨26, _⟩ => ⟨S_, .i32⟩
  | .hbm, ⟨27, _⟩ => ⟨S1024x1, .i32⟩
  | .hbm, ⟨28, _⟩ => ⟨S1024x1, .i1⟩
  | .hbm, ⟨29, _⟩ => ⟨S_, .f32⟩
  | .hbm, ⟨30, _⟩ => ⟨S_, .f32⟩
  | .hbm, ⟨31, _⟩ => ⟨S1024x100000, .i1⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024x100000, .f32⟩
  | .hbm, ⟨36, _⟩ => ⟨S1024x100000, .i1⟩
  | .hbm, ⟨37, _⟩ => ⟨S_, .f32⟩
  | .hbm, ⟨38, _⟩ => ⟨S1024x100000, .f32⟩
  | .hbm, ⟨39, _⟩ => ⟨S1024x100000, .i1⟩
  | .hbm, ⟨40, _⟩ => ⟨S_, .f32⟩
  | .hbm, ⟨41, _⟩ => ⟨S_, .f32⟩
  | .hbm, ⟨42, _⟩ => ⟨S1024x100000, .f32⟩
  | .hbm, ⟨43, _⟩ => ⟨S1024x100000, .f32⟩
  | .hbm, ⟨44, _⟩ => ⟨S1024x100000, .f32⟩
  | .hbm, ⟨45, _⟩ => ⟨S1024x100000, .f32⟩
  | .hbm, ⟨46, _⟩ => ⟨S1024x100000, .f32⟩
  | .hbm, ⟨47, _⟩ => ⟨S_, .f32⟩
  | .hbm, ⟨48, _⟩ => ⟨S_, .f32⟩
  | .hbm, ⟨49, _⟩ => ⟨S1024x100000, .f32⟩
  | .hbm, ⟨50, _⟩ => ⟨S1024x100000, .f32⟩
  | .hbm, ⟨51, _⟩ => ⟨S_, .f32⟩
  | .hbm, ⟨52, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v15 : Ref sig .tc := ⟨.hbm, 33, rfl⟩
abbrev main_cst_6 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_v18 : Ref sig .tc := ⟨.hbm, 38, rfl⟩
abbrev main_v19 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_9 : Ref sig .tc := ⟨.hbm, 47, rfl⟩
abbrev main_call4_v0 : Ref sig .tc := ⟨.hbm, 48, rfl⟩
abbrev main_call4_v1 : Ref sig .tc := ⟨.hbm, 49, rfl⟩
abbrev main_v24 : Ref sig .tc := ⟨.hbm, 50, rfl⟩
abbrev main_cst_10 : Ref sig .tc := ⟨.hbm, 51, rfl⟩
abbrev main_v25 : Ref sig .tc := ⟨.hbm, 52, rfl⟩

abbrev nD : Nat := 1
abbrev τ : Topo := Topo.v7x

variable {F : FTy → Type} [FloatOps F]
-- ==== Proof.Pre.lean ====
/-
  What the two preconditions say of the argument arrays: every target, read unsigned, is below 100000; and, for the second, every element of x has a finite absolute value.
-/
module

public import proofs.«01_k».proof.Defs
public import proofs.«01_k».proof.Proof.Gen.Pre_in_range
public import proofs.«01_k».proof.Proof.Gen.Pre_in_range_finite
public import Idealize.ShloMosaic.Lib.ReduceAll
public import Idealize.ShloMosaic.Lib.WordArith

@[expose] public section

noncomputable section

namespace Cert.Proof.Pre

open Idealize.ShloMosaic Idealize.SL.Sem

/-- A word that is not negative and below 100000 as a signed word is below 100000 as an unsigned one. -/
theorem word_lt (v : BitVec 32) (h0 : IntOp.cmpi .sge v 0#32 = 1#1) (h1 : IntOp.cmpi .slt v 100000#32 = 1#1) : v.toNat < 100000 := by
  have ofBool_eq_one (p : Bool) : (BitVec.ofBool p = 1#1) ↔ p = true := by cases p <;> decide
  simp only [IntOp.cmpi, ofBool_eq_one, BitVec.sle_eq_decide, BitVec.slt_eq_decide, decide_eq_true_eq, BitVec.toInt_eq_toNat_cond,
    BitVec.toNat_ofNat, Nat.reducePow, Nat.reduceMod] at h0 h1
  omega

instance : Subsingleton (Cert.Pre_in_range.S_).Idx := ⟨fun a b => funext fun k => k.elim0⟩
instance : Subsingleton (Cert.Pre_in_range_finite.S_).Idx := ⟨fun a b => funext fun k => k.elim0⟩

/-- `in_range` all ones: every target is below 100000. -/
theorem lt_of_in_range {F : FTy → Type} [FloatOps F] (x : FVec F Cert.Pre_in_range.S1024x100000 .f32) (t : IVec Cert.Pre_in_range.S1024 32)
    (h : Cert.Pre_in_range.fn x t = fun _ => 1#1) (r : Cert.Pre_in_range.S1024.Idx) : (t r).toNat < 100000 := by
  have e := congrFun h (fun k => k.elim0)
  simp only [Cert.Pre_in_range.fn, andi] at e
  obtain ⟨e1, e2⟩ := IntOp.andi_eq_one.1 e
  exact word_lt _ (Host.reduce_andi_all _ _ _ _ _ e1 r) (Host.reduce_andi_all _ _ _ _ _ e2 r)

/-- `in_range_finite` all ones: every target is below 100000. -/
theorem lt_of_in_range_finite {F : FTy → Type} [FloatOps F] (x : FVec F Cert.Pre_in_range_finite.S1024x100000 .f32) (t : IVec Cert.Pre_in_range_finite.S1024 32)
    (h : Cert.Pre_in_range_finite.fn x t = fun _ => 1#1) (r : Cert.Pre_in_range_finite.S1024.Idx) : (t r).toNat < 100000 := by
  have e := congrFun h (fun k => k.elim0)
  simp only [Cert.Pre_in_range_finite.fn, andi] at e
  obtain ⟨e1, e2⟩ := IntOp.andi_eq_one.1 (IntOp.andi_eq_one.1 e).1
  exact word_lt _ (Host.reduce_andi_all _ _ _ _ _ e1 r) (Host.reduce_andi_all _ _ _ _ _ e2 r)

/-- `in_range_finite` all ones: the absolute value of every element of x compares below the infinity's word. -/
theorem abs_of_in_range_finite {F : FTy → Type} [FloatOps F] (x : FVec F Cert.Pre_in_range_finite.S1024x100000 .f32) (t : IVec Cert.Pre_in_range_finite.S1024 32)
    (h : Cert.Pre_in_range_finite.fn x t = fun _ => 1#1) (p : Cert.Pre_in_range_finite.S1024x100000.Idx) :
    FloatOps.cmpf .olt (Host.absf x p) (FloatOps.ofBits .f32 0x7F800000#32) = 1#1 := by
  have e := congrFun h (fun k => k.elim0)
  simp only [Cert.Pre_in_range_finite.fn, andi] at e
  exact Host.reduce_andi_all _ _ _ _ _ (IntOp.andi_eq_one.1 e).2 p

end Cert.Proof.Pre

end
-- ==== Proof.KI.Base.lean ====
/-
  The launch's set-up shared by the modules about this program's run, and the values the run is stated with: which rows a tile
  works on, what its buffers hold after the copies, what the two gathered vectors are.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none
section
variable [FloatOps F] [Named F]
abbrev D : Defs nD τ sig (Elt F) (ΛP (F := F)) := Pipeline.defs pcfgs defs₀
end
abbrev 𝒱P : Variants := 𝒱₀.lift
abbrev v₀ : 𝒱P.V := Sum.inl none

/-- The decided side conditions of the launch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the TensorCore pipeline's rounds, the copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- Where the handshakes' rounds lie. -/
abbrev EH : Emb UH (MT nD τ sig (HIx 1) (Elt F) ℕ UU ℕ) := embL
/-- Where the pipeline's rounds lie. -/
abbrev EP : Emb UP (MT nD τ sig (HIx 1) (Elt F) ℕ UU ℕ) := (Emb.inl : Emb UP (UP × Counters)).trans embR
/-- Where the copies' counters lie. -/
abbrev EC : UEmb Counters (MT nD τ sig (HIx 1) (Elt F) ℕ UU ℕ) := countersEmb (U := UU)

instance EP_lands : (EP (F := F)).LandsIn (upEmb : UEmb _ (MT nD τ sig (HIx 1) (Elt F) ℕ UU ℕ)) := by
  unfold EP; infer_instance

/-! ## The arrays -/

abbrev xaLoc (d : Dev nD) : Loc nD τ sig := (SparseCore.T d).loc main_arg0
abbrev tLoc (d : Dev nD) : Loc nD τ sig := (SparseCore.T d).loc main_arg1
abbrev xLoc (d : Dev nD) : Loc nD τ sig := (SparseCore.T d).loc main_v0
abbrev gLoc (d : Dev nD) : Loc nD τ sig := (SparseCore.T d).loc main_v1_0
abbrev x0Loc (d : Dev nD) : Loc nD τ sig := (SparseCore.T d).loc main_v1_1

/-! ## The values -/

/-- The index of a shape with the given coordinates, each reduced modulo its extent. -/
def ix (s : Shape) (h : ∀ a, 0 < s.size a) (v : Fin s.rank → ℕ) : s.Idx := fun a => ⟨v a % s.size a, Nat.mod_lt _ (h a)⟩

theorem ix_val {s : Shape} {h : ∀ a, 0 < s.size a} {v : Fin s.rank → ℕ} (a : Fin s.rank) (hv : v a < s.size a) :
    (ix s h v a).val = v a := Nat.mod_eq_of_lt hv

theorem eq_ix {s : Shape} {h : ∀ a, 0 < s.size a} {v : Fin s.rank → ℕ} {x : s.Idx} (hx : ∀ a, (x a).val = v a) : x = ix s h v := by
  funext a
  apply Fin.ext
  show (x a).val = v a % s.size a
  rw [← hx a, Nat.mod_eq_of_lt (x a).isLt]

/-- Row `r`, column `c` of the padded `x`. -/
def px (r c : ℕ) : S1024x100096.Idx := ix S1024x100096 (by decide) ![r, c]
/-- Entry `r` of a vector of 1024. -/
def p1 (r : ℕ) : S1024.Idx := ix S1024 (by decide) ![r]

/-- The first row of the tile at coordinates `i`: 32 rows per tile, tile number twice the subcore plus the core. -/
def baseN (i : grid0.Coords) : ℕ := 32 * (2 * (i 1).val + (i 0).val)

theorem bound0 : grid0.bound 0 = 2 := rfl
theorem bound1 : grid0.bound 1 = 16 := rfl

theorem baseN_le (i : grid0.Coords) : baseN i ≤ 992 := by
  have h0 : (i 0).val < 2 := (i 0).isLt
  have h1 : (i 1).val < 16 := (i 1).isLt
  unfold baseN; omega

/-- The first row of the tile, as the printed word computes it. -/
def bw (i : grid0.Coords) : BitVec 32 :=
  Scalar.muli (Scalar.addi (Scalar.muli (BitVec.ofNat 32 (i 1).val) 2#32) (BitVec.ofNat 32 (i 0).val)) 32#32

theorem bw_toNat (i : grid0.Coords) : (bw i).toNat = baseN i := by
  have h0 : (i 0).val < 2 := (i 0).isLt
  have h1 : (i 1).val < 16 := (i 1).isLt
  unfold bw baseN Scalar.muli Scalar.addi IntOp.muli IntOp.addi
  simp only [BitVec.toNat_mul, BitVec.toNat_add, BitVec.toNat_ofNat]
  omega

theorem bw_add_toNat (i : grid0.Coords) (c : BitVec 32) (hc : c.toNat ≤ 24) : (Scalar.addi (bw i) c).toNat = baseN i + c.toNat := by
  have := baseN_le i
  unfold Scalar.addi IntOp.addi
  rw [BitVec.toNat_add, bw_toNat]
  omega

section Vals

variable (tv : S1024.Idx → BitVec 32) (xp : S1024x100096.Idx → F .f32)

/-- The column row `r`'s target names. -/
def tw (r : ℕ) : ℕ := (tv (p1 r)).toNat
/-- The first column of the 128-block that column lies in. -/
def stN (r : ℕ) : ℕ := tw tv r / 128 * 128

/-- What the tile's target buffer holds after its copy. -/
def tbufV (i : grid0.Coords) : S32.Idx → BitVec 32 := fun k => tv (p1 (baseN i + (k 0).val))
/-- What the tile's block buffer holds after its copies: for the tile's row `k`, at rows `8 k … 8 k + 7`, the 8 rows of `x`
    around row `base + k` at the 128 columns around that row's target. -/
def tilesV (i : grid0.Coords) : S256x128.Idx → F .f32 := fun p =>
  xp (px (baseN i + (p 0).val / 64 * 8 + (p 0).val % 8) (stN tv (baseN i + (p 0).val / 8) + (p 1).val))
/-- What the tile's first-columns buffer holds. -/
def x0V (i : grid0.Coords) : S32x128.Idx → F .f32 := fun p => xp (px (baseN i + (p 0).val) (p 1).val)
/-- `x` at every row's target. -/
def gV : S1024.Idx → F .f32 := fun r => xp (px (r 0).val (tw tv (r 0).val))
/-- `x`'s first column. -/
def x0full : S1024.Idx → F .f32 := fun r => xp (px (r 0).val 0)
/-- The tile's 32 entries of `gV`. -/
def goutV (i : grid0.Coords) : S32.Idx → F .f32 := fun k => gV tv xp (p1 (baseN i + (k 0).val))
/-- The tile's 32 entries of the first column. -/
def x0outV (i : grid0.Coords) : S32.Idx → F .f32 := fun k => x0full xp (p1 (baseN i + (k 0).val))

end Vals

/-- A word that starts a block of 128 columns lying inside the padded row. -/
def good (w : BitVec 32) : Prop := 128 ∣ w.toNat ∧ w.toNat ≤ 99968

end Cert.Proof.KI
-- ==== Proof.KI.TcBody.lean ====
/-
  The TensorCore kernel's body at one grid point: what it leaves in the running row sums, and, at the last point, in the result word.
-/
module

public import proofs.«01_k».proof.Proof.KI.Base
public import Idealize.ShloMosaic.Lib.Pipeline.Value

@[expose] public section

noncomputable section

namespace Cert.Proof.KI

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Whole-buffer loads and stores -/

/-- A load of all of a memref reads what it holds. -/
theorem wp_load_own {Λ : Labels} {df : Defs nD τ sig (Elt F) Λ} (𝒱 : Variants) {α : Type} (c : Thread nD τ) {cs : CoreSpace} {s : Shape} {e : EltTy}
    {m : Memref sig c.2.kind cs s e} {off : Fin s.rank → Nat} {inb : ∀ a, off a + s.size a ≤ s.size a} (h0 : off = fun _ => 0)
    {hl : m.view.LoadsAt (Rect.unit off s.size inb).toLoadRect}
    {k : ((Rect.unit off s.size inb).toLoadRect.shape.Idx → Elt F e) → Prog (TpuEff nD τ sig (Elt F) Λ c.2) α} {X : s.Idx → Elt F e} {Q : α → sProp 𝕄} :
    (owns c m fullShare X : sProp 𝕄)
      ⊢ iprop((owns c m fullShare X -∗ wp frame (wpE df 𝒱 c none) Set.univ (k X) Q)
        -∗ wp frame (wpE df 𝒱 c none) Set.univ (.op (.load m (Rect.unit off s.size inb).toLoadRect hl) k) Q) := by
  unfold owns
  iintro ⟨%f, %hf, H⟩ Hk
  have hr : m.view.readAt (Elt F) (Rect.unit off s.size inb).toLoadRect f = X := by
    rw [View.readAt_eq_ld, View.ld_unit_zero h0, hf]
  iapply (wp_load 𝒱 c none Set.univ (m := m) (S := m.view.set) (View.setOn_subset_set _ _)) $$ H
  iintro H
  rw [hr]
  iapply Hk
  iexists f
  isplitr [H]
  · ipureintro; exact hf
  · iexact H

/-- A store of all of a memref leaves it holding what was stored. -/
theorem wp_store_own {Λ : Labels} {df : Defs nD τ sig (Elt F) Λ} (𝒱 : Variants) {α : Type} (c : Thread nD τ) {cs : CoreSpace} {s : Shape} {e : EltTy}
    {m : Memref sig c.2.kind cs s e} {off : Fin s.rank → Nat} {inb : ∀ a, off a + s.size a ≤ s.size a} (h0 : off = fun _ => 0)
    {w : s.Idx → Elt F e} {hx : (m.access (Rect.unit off s.size inb)).Stores Finset.univ} {hm : Finset.univ = Finset.univ ∨ ∀ a, (Rect.unit off s.size inb).stride a = 1}
    {k : PUnit → Prog (TpuEff nD τ sig (Elt F) Λ c.2) α} {X : s.Idx → Elt F e} {Q : α → sProp 𝕄} :
    (owns c m fullShare X : sProp 𝕄)
      ⊢ iprop((owns c m fullShare w -∗ wp frame (wpE df 𝒱 c none) Set.univ (k ⟨⟩) Q)
        -∗ wp frame (wpE df 𝒱 c none) Set.univ (.op (.store m (Rect.unit off s.size inb) w Finset.univ hx hm) k) Q) := by
  unfold owns
  iintro ⟨%f, -, H⟩ Hk
  have hS : (m.access (Rect.unit off s.size inb)).setOn Finset.univ ⊆ m.view.set :=
    (View.setOn_subset_set _ _).trans (View.set_slice_subset _ _)
  have hr : m.view.read (Elt F) ((m.access (Rect.unit off s.size inb)).write (Elt F) f w Finset.univ) = w := by
    have h1 := View.read_write_univ (v := m.access (Rect.unit off s.size inb)) (Val := Elt F) f w
    have h2 : ∀ g, (m.access (Rect.unit off s.size inb)).read (Elt F) g = m.view.read (Elt F) g := by
      intro g; subst h0; funext x
      show m.view.read (Elt F) g ((Rect.whole s).emb x) = _
      rw [Rect.emb_whole_apply]
    rw [h2] at h1; exact h1
  iapply (wp_store 𝒱 c none Set.univ (m := m) (r := Rect.unit off s.size inb) (w := w) (Mk := Finset.univ) (S := m.view.set) hS) $$ H
  iintro H
  iapply Hk
  iexists ((m.access (Rect.unit off s.size inb)).write (Elt F) f w Finset.univ)
  isplitr [H]
  · ipureintro; exact hr
  · iexact H

/-! ## The three kinds of points -/

variable [FloatOps F] [Named F]

/-- The first condition of the body holds at point 0 only, -/
theorem cond1_iff : ∀ n : Fin 49, (Scalar.cmpi .ne (Scalar.extui (Scalar.cmpi .eq (BitVec.ofNat 32 n.val) 0#32) : BitVec 32) 0#32 = 1#1) ↔ n.val = 0 := by decide
/-- the second strictly between the first and the last, -/
theorem cond2_iff : ∀ n : Fin 49, (Scalar.cmpi .ne (Scalar.extui (Scalar.andi (Scalar.cmpi .sgt (BitVec.ofNat 32 n.val) 0#32) (Scalar.cmpi .slt (BitVec.ofNat 32 n.val) 48#32)) : BitVec 32) 0#32 = 1#1) ↔ (0 < n.val ∧ n.val < 48) := by decide
/-- and the third at the last. -/
theorem cond3_iff' : ∀ n : Fin 49, (Scalar.cmpi .ne (Scalar.extui (Scalar.cmpi .eq (BitVec.ofNat 32 n.val) 48#32) : BitVec 32) 0#32 = 1#1) ↔ n.val = 48 := by decide
theorem cond3_iff (i : grid1.Coords) : k1_cond3 i = 1#1 ↔ (i 0).val = 48 := cond3_iff' (i 0)

theorem off0 : (![0, 0] : Fin 2 → Nat) = fun _ => 0 := by funext a; fin_cases a <;> rfl

/-- What the running sums hold after point `n`, from the point's block `v` and what they held before. -/
def stepV (n : ℕ) (v : Vec F S1024x2048 .f32) (a : FVec F S1024x128 .f32) : FVec F S1024x128 .f32 :=
  if n = 0 then k1_pay1 v else if n < 48 then k1_pay2 v a else k1_pay4 (BitVec.ofNat 32 n) v a

/-- The result word, from the targets, the two gathered vectors and the finished sums. -/
def outV (t2 : Vec F S1024x1 .i32) (g2 x2 : Vec F S1024x1 .f32) (a : FVec F S1024x128 .f32) : F .f32 :=
  k1_pay3 (k1_pay5 t2) g2 a x2

variable (c : Dev nD) (i : grid1.Coords)
  (a1 : Memref sig .tc .vmem S1024x1 .i32) (h1 : a1.IsWhole) (a2 : Memref sig .tc .vmem S1024x1 .f32) (h2 : a2.IsWhole)
  (a3 : Memref sig .tc .vmem S1024x1 .f32) (h3 : a3.IsWhole) (a4 : Memref sig .tc .vmem S1024x2048 .f32) (h4 : a4.IsWhole)
  (a5 : Memref sig .tc .smem S1x1 .f32) (h5 : a5.IsWhole) (a6 : Memref sig .tc .vmem S1024x128 .f32) (h6 : a6.IsWhole)

/-- Before the last point the body adds its block to the running sums and touches nothing else. -/
theorem body_early (hn : (i 0).val < 48) (v : Vec F S1024x2048 .f32) (a : FVec F S1024x128 .f32) (Q : PUnit → sProp 𝕄) :
    iprop(owns c.tc a4 fullShare v ∗ owns c.tc a6 fullShare a
        ∗ ((owns c.tc a4 fullShare v ∗ owns c.tc a6 fullShare (stepV (i 0).val v a)) -∗ Q ⟨⟩))
      ⊢ wp frame (wpE (defs₀ (F := F)) 𝒱₀ c.tc none) Set.univ (cc1__body i a1 h1 a2 h2 a3 h3 a4 h4 a5 h5 a6 h6) Q := by
  rw [cc1__body_eq_skeleton]; unfold cc1__body_skel
  have hc3 : ¬ k1_cond3 i = 1#1 := by rw [cond3_iff]; omega
  iintro ⟨H4, H6, Hk⟩
  by_cases h0 : (i 0).val = 0
  · have hc1 := (cond1_iff (i 0)).mpr h0
    have hc2 : ¬ _ := mt (cond2_iff (i 0)).mp (by omega)
    simp only [dif_pos hc1, dif_neg hc2, dif_neg hc3, Prog.lift, Prog.bind_op, Prog.bind_ret, Prog.pure_eq_ret]
    iapply (wp_load_own 𝒱₀ c.tc (m := a4) off0) $$ H4
    iintro H4
    iapply (wp_load_own 𝒱₀ c.tc (m := a6) off0) $$ H6
    iintro H6
    iapply (wp_store_own 𝒱₀ c.tc (m := a6) off0) $$ H6
    iintro H6
    rw [wp_ret]
    imodintro
    iapply Hk
    isplitl [H4]
    · iexact H4
    · unfold stepV; rw [if_pos h0]; iexact H6
  · have hc1 : ¬ _ := mt (cond1_iff (i 0)).mp h0
    have hc2 := (cond2_iff (i 0)).mpr ⟨by omega, hn⟩
    simp only [dif_neg hc1, dif_pos hc2, dif_neg hc3, Prog.lift, Prog.bind_op, Prog.bind_ret, Prog.pure_eq_ret]
    iapply (wp_load_own 𝒱₀ c.tc (m := a4) off0) $$ H4
    iintro H4
    iapply (wp_load_own 𝒱₀ c.tc (m := a6) off0) $$ H6
    iintro H6
    iapply (wp_load_own 𝒱₀ c.tc (m := a6) off0) $$ H6
    iintro H6
    iapply (wp_store_own 𝒱₀ c.tc (m := a6) off0) $$ H6
    iintro H6
    rw [wp_ret]
    imodintro
    iapply Hk
    isplitl [H4]
    · iexact H4
    · unfold stepV; rw [if_neg h0, if_pos hn]; iexact H6

/-- At the last point the body adds the last block's part inside the array and writes the result word. -/
theorem body_last (hn : (i 0).val = 48) (v : Vec F S1024x2048 .f32) (a : FVec F S1024x128 .f32)
    (t2 : Vec F S1024x1 .i32) (g2 x2 : Vec F S1024x1 .f32) (o : S1x1.Idx → Elt F .f32) (Q : PUnit → sProp 𝕄) :
    iprop(owns c.tc a1 fullShare t2 ∗ owns c.tc a2 fullShare g2 ∗ owns c.tc a3 fullShare x2 ∗ owns c.tc a4 fullShare v ∗ owns c.tc a5 fullShare o ∗ owns c.tc a6 fullShare a
        ∗ ((owns c.tc a1 fullShare t2 ∗ owns c.tc a2 fullShare g2 ∗ owns c.tc a3 fullShare x2 ∗ owns c.tc a4 fullShare v
            ∗ owns c.tc a5 fullShare (fun _ => outV t2 g2 x2 (stepV (i 0).val v a)) ∗ owns c.tc a6 fullShare (stepV (i 0).val v a)) -∗ Q ⟨⟩))
      ⊢ wp frame (wpE (defs₀ (F := F)) 𝒱₀ c.tc none) Set.univ (cc1__body i a1 h1 a2 h2 a3 h3 a4 h4 a5 h5 a6 h6) Q := by
  rw [cc1__body_eq_skeleton]; unfold cc1__body_skel
  rw [k1_part1_eq_skeleton]; unfold k1_part1_skel smemLoad smemLoadElt
  have hc3 : k1_cond3 i = 1#1 := by rw [cond3_iff]; omega
  have hc1 : ¬ _ := mt (cond1_iff (i 0)).mp (by omega)
  have hc2 : ¬ _ := mt (cond2_iff (i 0)).mp (by omega)
  have hs : stepV (i 0).val v a = k1_pay4 (BitVec.ofNat 32 (i 0).val) v a := by unfold stepV; rw [if_neg (by omega), if_neg (by omega)]
  rw [hs]
  iintro ⟨H1, H2, H3, H4, H5, H6, Hk⟩
  simp only [dif_neg hc1, dif_neg hc2, dif_pos hc3, Prog.lift, Prog.bind_op, Prog.bind_ret, Prog.pure_eq_ret]
  iapply (wp_load_own 𝒱₀ c.tc (m := a4) off0) $$ H4
  iintro H4
  iapply (wp_load_own 𝒱₀ c.tc (m := a6) off0) $$ H6
  iintro H6
  iapply (wp_load_own 𝒱₀ c.tc (m := a6) off0) $$ H6
  iintro H6
  iapply (wp_store_own 𝒱₀ c.tc (m := a6) off0) $$ H6
  iintro H6
  iapply (wp_load_own 𝒱₀ c.tc (m := a1) off0) $$ H1
  iintro H1
  iapply (wp_load_own 𝒱₀ c.tc (m := a2) off0) $$ H2
  iintro H2
  iapply (wp_load_own 𝒱₀ c.tc (m := a6) off0) $$ H6
  iintro H6
  iapply (wp_load_own 𝒱₀ c.tc (m := a3) off0) $$ H3
  iintro H3
  iapply (wp_load_own 𝒱₀ c.tc (m := a5) off0) $$ H5
  iintro H5
  iapply (wp_store_own 𝒱₀ c.tc (m := a5) off0) $$ H5
  iintro H5
  rw [wp_ret]
  imodintro
  iapply Hk
  isplitl [H1]
  · iexact H1
  isplitl [H2]
  · iexact H2
  isplitl [H3]
  · iexact H3
  isplitl [H4]
  · iexact H4
  isplitl [H5]
  · unfold outV; iexact H5
  · iexact H6

end Cert.Proof.KI

end
-- ==== Proof.KI.TcVals.lean ====
/-
  The TensorCore call's values: the block a point finds, the running sums point by point, and that the last block's part outside
  the array is masked away.
-/
module

public import proofs.«01_k».proof.Proof.KI.TcBody

@[expose] public section

noncomputable section

namespace Cert.Proof.KI

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-! ## The last block's mask -/

/-- Which columns of block `n` the last step takes. -/
def maskV (n : BitVec 32) : IVec S1024x2048 1 :=
  broadcastTo S1024x2048 (shapeCast S1x2048 (cmpi .slt (addi (broadcast S1x2048 (Scalar.muli n 2048#32)) (iota .tc S1x2048 32 [1] iota_S1x2048_d1_w32)) (broadcast S1x2048 100000#32)) shapeCasts_S1x2048_S1x2048) broadcasts_S1x2048_S1024x2048

/-- The last step is the middle step on the masked block. -/
theorem pay4_eq (n : BitVec 32) (v : Vec F S1024x2048 .f32) (a : Vec F S1024x128 .f32) :
    k1_pay4 n v a = k1_pay2 (select (maskV n) v (broadcast S1024x2048 (Scalar.ofBits .f32 0x00000000#32))) a := rfl

theorem mask_bit : ∀ q : Fin 2048, IntOp.cmpi .slt (IntOp.addi (Scalar.muli 48#32 2048#32) (BitVec.ofNat 32 q.val)) 100000#32 = 1#1 ↔ q.val < 1696 := by
  intro q
  have hq := q.isLt
  show BitVec.ofBool (BitVec.slt ((48#32 * 2048#32) + BitVec.ofNat 32 q.val) 100000#32) = 1#1 ↔ _
  rw [show (BitVec.ofBool (BitVec.slt ((48#32 * 2048#32) + BitVec.ofNat 32 q.val) 100000#32) = 1#1) ↔ BitVec.slt ((48#32 * 2048#32) + BitVec.ofNat 32 q.val) 100000#32 = true by
    cases BitVec.slt ((48#32 * 2048#32) + BitVec.ofNat 32 q.val) 100000#32 <;> simp]
  rw [BitVec.slt_iff_toInt_lt]
  have h1 : ((48#32 * 2048#32) + BitVec.ofNat 32 q.val).toNat = 98304 + q.val := by
    rw [BitVec.toNat_add, BitVec.toNat_ofNat]; simp; omega
  rw [BitVec.toInt_eq_toNat_of_lt (by omega), h1]
  simp; omega

/-- At the last point the mask takes the columns inside the array. -/
theorem maskV_iff (p : S1024x2048.Idx) : maskV 48#32 p = 1#1 ↔ (p 1).val < 1696 := by
  unfold maskV
  rw [shapeCast_self]
  rw [broadcastTo_apply _ _ p (show S1x2048.Idx from fun | 0 => (⟨0, by decide⟩ : Fin 1) | 1 => p 1) (by intro a; fin_cases a <;> rfl)]
  show IntOp.cmpi .slt (IntOp.addi (Scalar.muli 48#32 2048#32) (BitVec.ofNat 32 (0 * 2048 + (p 1).val))) 100000#32 = 1#1 ↔ _
  rw [Nat.zero_mul, Nat.zero_add]
  exact mask_bit (p 1)

/-! ## The blocks and the running sums -/

/-- Block `n` of `x`: its columns from `2048 n` on (anything past the array's end). -/
def xblk (xv : S1024x100000.Idx → F .f32) (n : ℕ) : Vec F S1024x2048 .f32 := fun p =>
  if h : 2048 * n + (p 1).val < 100000 then xv (fun | 0 => p 0 | 1 => ⟨2048 * n + (p 1).val, h⟩) else Scalar.ofBits .f32 0x00000000#32

/-- The running sums after each point. -/
def accV (xv : S1024x100000.Idx → F .f32) : ℕ → FVec F S1024x128 .f32
  | 0 => k1_pay1 (xblk xv 0)
  | n + 1 => stepV (n + 1) (xblk xv (n + 1)) (accV xv n)

/-- A step depends on its block only through the columns inside the array. -/
theorem stepV_congr (xv : S1024x100000.Idx → F .f32) (n : ℕ) (hn : n < 49) (v : Vec F S1024x2048 .f32) (a : FVec F S1024x128 .f32)
    (hv : ∀ p : S1024x2048.Idx, 2048 * n + (p 1).val < 100000 → v p = xblk xv n p) : stepV n v a = stepV n (xblk xv n) a := by
  by_cases h : n < 48
  · have : v = xblk xv n := by
      funext p; have h1 : (p 1).val < 2048 := (p 1).isLt
      exact hv p (by omega)
    rw [this]
  · obtain rfl : n = 48 := by omega
    unfold stepV
    rw [if_neg (by omega), if_neg (by omega), if_neg (by omega), if_neg (by omega), pay4_eq, pay4_eq]
    congr 1
    funext p
    show Scalar.select (maskV 48#32 p) (v p) _ = Scalar.select (maskV 48#32 p) (xblk xv 48 p) _
    unfold Scalar.select
    by_cases hm : maskV 48#32 p = 1
    · rw [if_pos hm, if_pos hm]; exact hv p (by have := (maskV_iff p).mp hm; omega)
    · rw [if_neg hm, if_neg hm]

/-- The point's coordinate is the point. -/
theorem coord_val (t : Fin grid1.N) : (grid1.coords t 0).val = t.val := by
  have h := Pipeline.Grid.coords_val (G := grid1) t 0 (S := 1) (B := 49) (by decide) rfl
  have ht : t.val < 49 := lt_of_lt_of_eq t.isLt N_1
  rw [h]; omega

theorem index3 (t : Fin grid1.N) : cc1_transform_3 (grid1.coords t) = ![0, t.val] := by
  have ht : t.val < 49 := lt_of_lt_of_eq t.isLt N_1
  funext a
  fin_cases a
  · rfl
  · show (BitVec.ofNat 32 (grid1.coords t 0).val).toNat = t.val
    rw [coord_val, BitVec.toNat_ofNat]; omega

/-- The block's transfer at a point moves the columns inside the array. -/
theorem moved3 (t : Fin grid1.N) (p : S1024x2048.Idx) (h : 2048 * t.val + (p 1).val < 100000) : win1_3.moved (grid1.coords t) p = true := by
  rw [Pipeline.Window.moved_iff]
  intro a
  have h1 : (p 1).val < 2048 := (p 1).isLt
  show (p a).val < (Pipeline.Clip.of (cc1_transform_3 (grid1.coords t) a) (S1024x2048.size a) (S1024x100000.size a)).extent (S1024x2048.size a)
  rw [index3]
  fin_cases a
  · show (p 0).val < (Pipeline.Clip.of 0 1024 1024).extent 1024
    rw [show Pipeline.Clip.of 0 1024 1024 = none from rfl]; exact (p 0).isLt
  · show (p 1).val < (Pipeline.Clip.of t.val 2048 100000).extent 2048
    unfold Pipeline.Clip.of
    split
    · exact h1
    · show (p 1).val < 100000 - t.val * 2048; omega

/-- What a fetch at a point puts in the buffer, at the columns inside the array: the block. -/
theorem fill3 (xv : S1024x100000.Idx → F .f32) (t : Fin grid1.N) (d : S1024x2048.Idx → F .f32) (p : S1024x2048.Idx) (h : 2048 * t.val + (p 1).val < 100000) :
    win1_3.fill (grid1.coords t) d ((win1_3.blk t).view.read (Elt F) xv) p = xblk xv t.val p := by
  unfold Pipeline.Window.fill
  rw [dif_pos (moved3 t p h)]
  unfold xblk
  rw [dif_pos h]
  show xv ((win1_3.rect t).emb _) = _
  congr 1
  have ht : t.val < 49 := lt_of_lt_of_eq t.isLt N_1
  funext a
  apply Fin.ext
  rw [Pipeline.Window.rect_emb_val win1_3 t _ a rfl]
  show cc1_transform_3 (grid1.coords t) a * S1024x2048.size a + (p a).val = _
  rw [index3]
  fin_cases a
  · show 0 * 1024 + (p 0).val = (p 0).val; omega
  · show t.val * 2048 + (p 1).val = 2048 * t.val + (p 1).val; omega

end Cert.Proof.KI

end
-- ==== Proof.KI.Steps.lean ====
/-
  One step of a tile's task at a time: starting the copy of one 8 x 128 block, waiting for one of the 32 block copies, and the
  bounds of the blocks' addresses.
-/
module

public import proofs.«01_k».proof.Proof.KI.Base

@[expose] public section

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch Flight pending pending_zero pending_succ not_mem_pending_succ)

variable {F : FTy → Type}

local notation "𝕄" => MT nD τ sig (HIx 1) (Elt F) ℕ UU ℕ

/-! ## The blocks' addresses -/

/-- A block of 8 rows at one of the tile's four groups and 128 columns from a good word lies in the padded `x`. -/
theorem tile_inb (i : grid0.Coords) (c : BitVec 32) (hc : c.toNat ≤ 24) {w : BitVec 32} (hw : good w) :
    ∀ a, (![(Scalar.addi (bw i) c).toNat, w.toNat] : Fin 2 → ℕ) a + S8x128.size a ≤ S1024x100096.size a := by
  have hb := baseN_le i
  have he := bw_add_toNat i c hc
  have h2 := hw.2
  intro a
  match a with
  | 0 => show (Scalar.addi (bw i) c).toNat + 8 ≤ 1024; omega
  | 1 => show w.toNat + 128 ≤ 100096; omega

theorem chk1_of (i : grid0.Coords) {w : BitVec 32} (h : good w) : k0_chk1 i w := ⟨h.1, tile_inb i 0#32 (by decide) h, tile_inb i 0#32 (by decide) h⟩
theorem chk2_of (i : grid0.Coords) {w : BitVec 32} (h : good w) : k0_chk2 i w := ⟨h.1, tile_inb i 0#32 (by decide) h, tile_inb i 0#32 (by decide) h⟩
theorem chk3_of (i : grid0.Coords) {w : BitVec 32} (h : good w) : k0_chk3 i w := ⟨h.1, tile_inb i 0#32 (by decide) h, tile_inb i 0#32 (by decide) h⟩
theorem chk4_of (i : grid0.Coords) {w : BitVec 32} (h : good w) : k0_chk4 i w := ⟨h.1, tile_inb i 0#32 (by decide) h, tile_inb i 0#32 (by decide) h⟩
theorem chk5_of (i : grid0.Coords) {w : BitVec 32} (h : good w) : k0_chk5 i w := ⟨h.1, tile_inb i 0#32 (by decide) h, tile_inb i 0#32 (by decide) h⟩
theorem chk6_of (i : grid0.Coords) {w : BitVec 32} (h : good w) : k0_chk6 i w := ⟨h.1, tile_inb i 0#32 (by decide) h, tile_inb i 0#32 (by decide) h⟩
theorem chk7_of (i : grid0.Coords) {w : BitVec 32} (h : good w) : k0_chk7 i w := ⟨h.1, tile_inb i 0#32 (by decide) h, tile_inb i 0#32 (by decide) h⟩
theorem chk8_of (i : grid0.Coords) {w : BitVec 32} (h : good w) : k0_chk8 i w := ⟨h.1, tile_inb i 0#32 (by decide) h, tile_inb i 0#32 (by decide) h⟩
theorem chk9_of (i : grid0.Coords) {w : BitVec 32} (h : good w) : k0_chk9 i w := ⟨h.1, tile_inb i 8#32 (by decide) h, tile_inb i 8#32 (by decide) h⟩
theorem chk10_of (i : grid0.Coords) {w : BitVec 32} (h : good w) : k0_chk10 i w := ⟨h.1, tile_inb i 8#32 (by decide) h, tile_inb i 8#32 (by decide) h⟩
theorem chk11_of (i : grid0.Coords) {w : BitVec 32} (h : good w) : k0_chk11 i w := ⟨h.1, tile_inb i 8#32 (by decide) h, tile_inb i 8#32 (by decide) h⟩
theorem chk12_of (i : grid0.Coords) {w : BitVec 32} (h : good w) : k0_chk12 i w := ⟨h.1, tile_inb i 8#32 (by decide) h, tile_inb i 8#32 (by decide) h⟩
theorem chk13_of (i : grid0.Coords) {w : BitVec 32} (h : good w) : k0_chk13 i w := ⟨h.1, tile_inb i 8#32 (by decide) h, tile_inb i 8#32 (by decide) h⟩
theorem chk14_of (i : grid0.Coords) {w : BitVec 32} (h : good w) : k0_chk14 i w := ⟨h.1, tile_inb i 8#32 (by decide) h, tile_inb i 8#32 (by decide) h⟩
theorem chk15_of (i : grid0.Coords) {w : BitVec 32} (h : good w) : k0_chk15 i w := ⟨h.1, tile_inb i 8#32 (by decide) h, tile_inb i 8#32 (by decide) h⟩
theorem chk16_of (i : grid0.Coords) {w : BitVec 32} (h : good w) : k0_chk16 i w := ⟨h.1, tile_inb i 8#32 (by decide) h, tile_inb i 8#32 (by decide) h⟩
theorem chk17_of (i : grid0.Coords) {w : BitVec 32} (h : good w) : k0_chk17 i w := ⟨h.1, tile_inb i 16#32 (by decide) h, tile_inb i 16#32 (by decide) h⟩
theorem chk18_of (i : grid0.Coords) {w : BitVec 32} (h : good w) : k0_chk18 i w := ⟨h.1, tile_inb i 16#32 (by decide) h, tile_inb i 16#32 (by decide) h⟩
theorem chk19_of (i : grid0.Coords) {w : BitVec 32} (h : good w) : k0_chk19 i w := ⟨h.1, tile_inb i 16#32 (by decide) h, tile_inb i 16#32 (by decide) h⟩
theorem chk20_of (i : grid0.Coords) {w : BitVec 32} (h : good w) : k0_chk20 i w := ⟨h.1, tile_inb i 16#32 (by decide) h, tile_inb i 16#32 (by decide) h⟩
theorem chk21_of (i : grid0.Coords) {w : BitVec 32} (h : good w) : k0_chk21 i w := ⟨h.1, tile_inb i 16#32 (by decide) h, tile_inb i 16#32 (by decide) h⟩
theorem chk22_of (i : grid0.Coords) {w : BitVec 32} (h : good w) : k0_chk22 i w := ⟨h.1, tile_inb i 16#32 (by decide) h, tile_inb i 16#32 (by decide) h⟩
theorem chk23_of (i : grid0.Coords) {w : BitVec 32} (h : good w) : k0_chk23 i w := ⟨h.1, tile_inb i 16#32 (by decide) h, tile_inb i 16#32 (by decide) h⟩
theorem chk24_of (i : grid0.Coords) {w : BitVec 32} (h : good w) : k0_chk24 i w := ⟨h.1, tile_inb i 16#32 (by decide) h, tile_inb i 16#32 (by decide) h⟩
theorem chk25_of (i : grid0.Coords) {w : BitVec 32} (h : good w) : k0_chk25 i w := ⟨h.1, tile_inb i 24#32 (by decide) h, tile_inb i 24#32 (by decide) h⟩
theorem chk26_of (i : grid0.Coords) {w : BitVec 32} (h : good w) : k0_chk26 i w := ⟨h.1, tile_inb i 24#32 (by decide) h, tile_inb i 24#32 (by decide) h⟩
theorem chk27_of (i : grid0.Coords) {w : BitVec 32} (h : good w) : k0_chk27 i w := ⟨h.1, tile_inb i 24#32 (by decide) h, tile_inb i 24#32 (by decide) h⟩
theorem chk28_of (i : grid0.Coords) {w : BitVec 32} (h : good w) : k0_chk28 i w := ⟨h.1, tile_inb i 24#32 (by decide) h, tile_inb i 24#32 (by decide) h⟩
theorem chk29_of (i : grid0.Coords) {w : BitVec 32} (h : good w) : k0_chk29 i w := ⟨h.1, tile_inb i 24#32 (by decide) h, tile_inb i 24#32 (by decide) h⟩
theorem chk30_of (i : grid0.Coords) {w : BitVec 32} (h : good w) : k0_chk30 i w := ⟨h.1, tile_inb i 24#32 (by decide) h, tile_inb i 24#32 (by decide) h⟩
theorem chk31_of (i : grid0.Coords) {w : BitVec 32} (h : good w) : k0_chk31 i w := ⟨h.1, tile_inb i 24#32 (by decide) h, tile_inb i 24#32 (by decide) h⟩
theorem chk32_of (i : grid0.Coords) {w : BitVec 32} (h : good w) : k0_chk32 i w := ⟨h.1, tile_inb i 24#32 (by decide) h⟩

/-! ## The tile's thread, buffers and blocks -/

section Tile

variable (d : Dev nD) (i : grid0.Coords)

abbrev cV (i : grid0.Coords) : Fin τ.nSC := (i 0).castLE hcore0
abbrev jV (i : grid0.Coords) : Fin τ.nSub := (i 1).castLE hsub0
/-- The tile's thread. -/
abbrev thr : Thread nD τ := V d (cV i) (jV i)

abbrev xW : Memref sig .scVector .hbm S1024x100096 .f32 := Memref.whole main_v0_scv
abbrev tW : Memref sig .scVector .hbm S1024 .i32 := Memref.whole main_arg1_scv
abbrev gW : Memref sig .scVector .hbm S1024 .f32 := Memref.whole main_v1_0_scv
abbrev zW : Memref sig .scVector .hbm S1024 .f32 := Memref.whole main_v1_1_scv
abbrev sT : Memref sig .scVector .vmem S32 .i32 := Memref.whole cc0_scratch0
abbrev sB : Memref sig .scVector .vmem S256x128 .f32 := Memref.whole cc0_scratch1
abbrev sX : Memref sig .scVector .vmem S32x128 .f32 := Memref.whole cc0_scratch2
abbrev sG : Memref sig .scVector .vmem S32 .f32 := Memref.whole cc0_scratch3
abbrev sZ : Memref sig .scVector .vmem S32 .f32 := Memref.whole cc0_scratch4

theorem blk_inb (j : ℕ) (hj : j < 32) : ∀ a, (![8 * j, 0] : Fin 2 → ℕ) a + S8x128.size a ≤ S256x128.size a := by
  intro a
  match a with
  | 0 => show 8 * j + 8 ≤ 256; omega
  | 1 => show 0 + 128 ≤ 128; omega

/-- Block `t` of the block buffer: rows `8 t … 8 t + 7`. -/
abbrev blkM (t : Fin 32) : Memref sig .scVector .vmem S8x128 .f32 :=
  sB.slice (Rect.unit (s := S256x128) ![8 * t.val, 0] S8x128.size (blk_inb t.val t.isLt)) (fun _ => rfl)
abbrev blk (t : Fin 32) : Finset S256x128.Idx := (blkM t).view.set

theorem mem_blk {t : Fin 32} {p : S256x128.Idx} : p ∈ blk t ↔ (p 0).val / 8 = t.val := by
  show p ∈ ((View.whole cc0_scratch1).slice (Rect.unit (s := S256x128) ![8 * t.val, 0] S8x128.size (blk_inb t.val t.isLt))).set ↔ _
  rw [View.set_slice_whole, Rect.mem_set_unit]
  have h1 : (p 1).val < 128 := (p 1).isLt
  constructor
  · intro h
    have h0 : 8 * t.val ≤ (p 0).val ∧ (p 0).val < 8 * t.val + 8 := h 0
    omega
  · intro h a
    match a with
    | 0 => show 8 * t.val ≤ (p 0).val ∧ (p 0).val < 8 * t.val + 8; omega
    | 1 => show 0 ≤ (p 1).val ∧ (p 1).val < 0 + 128; omega

theorem blk_disjoint (t t' : Fin 32) (h : t ≠ t') : Disjoint (blk t) (blk t') := by
  rw [Finset.disjoint_left]
  intro p h1 h2
  rw [mem_blk] at h1 h2
  exact h (Fin.ext (h1.symm.trans h2))

theorem blk_union : (Finset.univ : Finset (Fin 32)).biUnion blk = Finset.univ := by
  ext p
  have h0 : (p 0).val < 256 := (p 0).isLt
  simp only [Finset.mem_biUnion, Finset.mem_univ, true_and, iff_true]
  exact ⟨⟨(p 0).val / 8, by omega⟩, mem_blk.mpr rfl⟩

/-- The semaphore the block copies complete on, as a cell of the tile. -/
abbrev bSem : SemLoc sig := .dma cc0_scratch5.sem
/-- What one block copy credits. -/
abbrev NB : ℕ := (blkM 0).view.dmaCredit
theorem NB_pos : 0 < NB := View.dmaCredit_pos _ (by decide)

variable (tv : S1024.Idx → BitVec 32) (xp : S1024x100096.Idx → F .f32)

/-- What block copy `t` delivers: its block at the value the task is stated with. -/
def Dl (t : Fin 32) : sProp 𝕄 := (sB.view.loc (thr d i) ↦[blk t]{fullShare} (tilesV tv xp i : Buf (Elt F) (sB.view.loc (thr d i))))

instance Dl_storable (t : Fin 32) : BI.Storable (upEmb : UEmb _ 𝕄) (Dl (F := F) d i tv xp t) := by
  unfold Dl; infer_instance

/-- `j` block copies started: some share of the padded `x`, the blocks still to fill, the batch. -/
def Iss (j : ℕ) : sProp 𝕄 :=
  iprop((∃ q, xW.view.loc (thr d i) ↦{q} (xp : Buf (Elt F) (xW.view.loc (thr d i))))
    ∗ (bigSep (pending j) fun t : Fin 32 => iprop(∃ f, sB.view.loc (thr d i) ↦[blk t]{fullShare} f))
    ∗ Batch (EC (F := F)) (thr d i) bSem none NB (Dl d i tv xp) j 0)

/-- Some share of an array is a share of some of its elements and a share of all of them again. -/
theorem share_take {ℓ : Loc nD τ sig} (B : Finset (Idx ℓ)) (f : Buf (Elt F) ℓ) :
    iprop(∃ q, ℓ ↦{q} f) ⊢ (iprop((∃ q, ℓ ↦[B]{q} f) ∗ ∃ q, ℓ ↦{q} f) : sProp 𝕄) := by
  iintro ⟨%q, H⟩
  ihave H2 := (pointsTo_share (ℓ := ℓ) (I := Finset.univ) (f := f) (PosShare.mem_left_op_right q)).1 $$ H
  icases H2 with ⟨Hl, Hr⟩
  isplitl [Hl]
  · ihave H3 := (pointsTo_split_subset (ℓ := ℓ) (f := f) (Finset.subset_univ B)).1 $$ Hl
    icases H3 with ⟨H3, -⟩
    iexists q.left; iexact H3
  · iexists q.right; iexact Hr

variable [FloatOps F] [Named F]

/-- What the copy of block `j` writes is the stated value. -/
theorem blk_written (j : ℕ) (hj : j < 32) (offs : Fin 2 → ℕ)
    (hof : offs = ![baseN i + j / 8 * 8, stN tv (baseN i + j)]) (h1 : ∀ a, offs a + S8x128.size a ≤ S1024x100096.size a)
    (f : Buf (Elt F) (sB.view.loc (thr d i))) :
    ∀ p ∈ blk ⟨j, hj⟩, ((blkM ⟨j, hj⟩).view.write (Elt F) f ((ReadAs.same : ReadAs (Elt F) S8x128 .f32 S8x128 .f32).apply
      ((xW.slice (Rect.unit (s := S1024x100096) offs S8x128.size h1) (fun _ => rfl)).view.read (Elt F) xp)) Finset.univ) p
      = tilesV tv xp i p := by
  intro p hp
  obtain ⟨y, -, rfl⟩ := Finset.mem_map.1 hp
  rw [View.write_emb_of_mem _ _ (Finset.mem_univ y)]
  have hy0 : (y 0).val < 8 := (y 0).isLt
  have hy1 : (y 1).val < 128 := (y 1).isLt
  show xp ((Rect.unit (s := S1024x100096) offs S8x128.size h1).emb y) = xp (px _ _)
  congr 1
  refine eq_ix fun a => ?_
  match a with
  | 0 =>
    show offs 0 + 1 * (y 0).val = baseN i + (8 * j + 1 * (y 0).val) / 64 * 8 + (8 * j + 1 * (y 0).val) % 8
    rw [hof]; show baseN i + j / 8 * 8 + 1 * (y 0).val = _
    omega
  | 1 =>
    show offs 1 + 1 * (y 1).val = stN tv (baseN i + (8 * j + 1 * (y 0).val) / 8) + (0 + 1 * (y 1).val)
    rw [hof, show (8 * j + 1 * (y 0).val) / 8 = j by omega]
    show stN tv (baseN i + j) + 1 * (y 1).val = _
    omega

/-- Starting block copy `j`. -/
theorem issue_step (j : ℕ) (hj : j < 32) (o offs : Fin 2 → ℕ) (ho : o = ![8 * j, 0])
    (hof : offs = ![baseN i + j / 8 * 8, stN tv (baseN i + j)])
    (h1 : ∀ a, offs a + S8x128.size a ≤ S1024x100096.size a) (h2 : ∀ a, o a + S8x128.size a ≤ S256x128.size a)
    {p1 : (xW.slice (Rect.unit (s := S1024x100096) offs S8x128.size h1) (fun _ => rfl)).view.WordExact}
    {p2 : (DmaTarget.here (nD := nD) (τ := τ) (sig := sig) (p := (thr d i).2) (sB.slice (Rect.unit (s := S256x128) o S8x128.size h2) (fun _ => rfl))).view.WordExact}
    {p3 : DmaTarget.Typed (nD := nD) (τ := τ) (sig := sig) (p := (thr d i).2) Space.hbm bSem (.here (sB.slice (Rect.unit (s := S256x128) o S8x128.size h2) (fun _ => rfl)))}
    {α : Type} {k : PUnit → Prog (TpuEff nD τ sig (Elt F) Λ₀ (thr d i).2) α} {Q : α → sProp 𝕄} :
    iprop(Iss d i tv xp j) ⊢ iprop((Iss d i tv xp (j + 1) -∗ wp frame (wpE defs₀ 𝒱₀ (thr d i) none) Set.univ (k ⟨⟩) Q)
      -∗ wp frame (wpE defs₀ 𝒱₀ (thr d i) none) Set.univ
        (.op (.enqueueDma (xW.slice (Rect.unit (s := S1024x100096) offs S8x128.size h1) (fun _ => rfl))
          (.here (sB.slice (Rect.unit (s := S256x128) o S8x128.size h2) (fun _ => rfl))) bSem p1 p2 p3) k) Q) := by
  subst ho
  unfold Iss
  iintro ⟨Hx, Hb, Hbat⟩ Hk
  ihave Hx2 := (share_take (F := F) (xW.slice (Rect.unit (s := S1024x100096) offs S8x128.size h1) (fun _ => rfl)).view.set xp) $$ Hx
  icases Hx2 with ⟨⟨%q, Hx1⟩, Hx2⟩
  ihave Hb2 := (Entails.of_eq (show (bigSep (pending j) fun t : Fin 32 => iprop(∃ f, sB.view.loc (thr d i) ↦[blk t]{fullShare} f) : sProp 𝕄)
      = iprop((∃ f, sB.view.loc (thr d i) ↦[blk ⟨j, hj⟩]{fullShare} f)
        ∗ bigSep (pending (j + 1)) fun t : Fin 32 => iprop(∃ f, sB.view.loc (thr d i) ↦[blk t]{fullShare} f))
    from by rw [pending_succ hj, bigSep_insert (not_mem_pending_succ hj)]; rfl)) $$ Hb
  icases Hb2 with ⟨⟨%f, Hf⟩, Hb⟩
  iapply (Transfers.wp_dmaBatch (EC (F := F)) 𝒱₀ (thr d i) none (none : HIx 1) NB rfl (Sd := blk ⟨j, hj⟩) (Finset.Subset.refl _) hj (Nat.zero_le _) (D := Dl d i tv xp)
    (src := xW.slice (Rect.unit (s := S1024x100096) offs S8x128.size h1) (fun _ => rfl)) (dst := blkM ⟨j, hj⟩)
    (q := q) (fs := xp) (fd := f) ?_) $$ [Hx1 Hf Hbat]
  · unfold Dl
    iintro ⟨H, -⟩
    iapply (Entails.of_eq (pointsTo_congr (blk_written d i tv xp j hj offs hof h1 f)))
    iexact H
  · isplitl [Hx1]; · iexact Hx1
    isplitl [Hf]; · iexact Hf
    iexact Hbat
  iintro Hbat
  iapply Hk
  isplitl [Hx2]; · iexact Hx2
  isplitl [Hb]; · iexact Hb
  iexact Hbat

/-- A tile's debts and waits: what it owes, with some waits recorded beyond those it began with, each at no round. -/
def Ow (O : CellTallies nD τ sig (HIx 1)) (W : Waits sig (HIx 1)) : sProp 𝕄 :=
  iprop(∃ W', ⌜∀ p ∈ W', p ∈ W ∨ p.2 = none⌝ ∗ owes (thr d i) O W')

/-- `j` of the 32 block copies waited for. -/
def Wt (O : CellTallies nD τ sig (HIx 1)) (W : Waits sig (HIx 1)) (j : ℕ) : sProp 𝕄 :=
  iprop(Batch (EC (F := F)) (thr d i) bSem none NB (Dl d i tv xp) 32 (j * NB) ∗ Ow d i O W)

theorem Ow_insert {O : CellTallies nD τ sig (HIx 1)} {W W' : Waits sig (HIx 1)} (h : ∀ p ∈ W', p ∈ W ∨ p.2 = none) (sm : SemLoc sig) :
    (owes (thr d i) O (insert (sm, none) W') : sProp 𝕄) ⊢ Ow d i O W := by
  unfold Ow
  iintro H
  iexists insert (sm, (none : HIx 1)) W'
  isplitr
  · ipureintro
    intro p hp
    rcases Finset.mem_insert.mp hp with rfl | hp
    · exact .inr rfl
    · exact h p hp
  · iexact H

/-- Waiting for one of the block copies, not the last. -/
theorem wait_step {O : CellTallies nD τ sig (HIx 1)} {W : Waits sig (HIx 1)}
    (hmw : (levAts (K (F := F)).L (K (F := F)).lev : sProp 𝕄) ⊢ Transfers.MayWaits (thr d i) none O)
    (j : ℕ) (hj : j < 31) (o offs : Fin 2 → ℕ)
    (h1 : ∀ a, offs a + S8x128.size a ≤ S1024x100096.size a) (h2 : ∀ a, o a + S8x128.size a ≤ S256x128.size a)
    {p1 : (xW.slice (Rect.unit (s := S1024x100096) offs S8x128.size h1) (fun _ => rfl)).view.WordExact}
    {p2 : (sB.slice (Rect.unit (s := S256x128) o S8x128.size h2) (fun _ => rfl)).view.WordExact}
    {α : Type} {k : PUnit → Prog (TpuEff nD τ sig (Elt F) Λ₀ (thr d i).2) α} {Q : α → sProp 𝕄} :
    iprop(levAts (K (F := F)).L (K (F := F)).lev ∗ Wt d i tv xp O W j)
      ⊢ iprop((Wt d i tv xp O W (j + 1) -∗ wp frame (wpE defs₀ 𝒱₀ (thr d i) none) Set.univ (k ⟨⟩) Q)
      -∗ wp frame (wpE defs₀ 𝒱₀ (thr d i) none) Set.univ
        (.op (.waitDma2 cc0_scratch5.sem (xW.slice (Rect.unit (s := S1024x100096) offs S8x128.size h1) (fun _ => rfl))
          (sB.slice (Rect.unit (s := S256x128) o S8x128.size h2) (fun _ => rfl)) p1 p2) k) Q) := by
  unfold Wt
  iintro ⟨Hlev, Hb, Ho⟩ Hk
  unfold Ow
  icases Ho with ⟨%W', %hW', Ho⟩
  have hpos := NB_pos
  iapply (Transfers.wp_waitBatchO (EC (F := F)) 𝒱₀ (thr d i) none (none : HIx 1) (N := NB)
    (srcw := xW.slice (Rect.unit (s := S1024x100096) offs S8x128.size h1) (fun _ => rfl))
    (dstw := sB.slice (Rect.unit (s := S256x128) o S8x128.size h2) (fun _ => rfl)) (hsrc := p1) (hdst := p2) rfl (u := j * NB) (by
    rw [← Nat.succ_mul, Nat.mul_comm NB 32]; exact Nat.mul_lt_mul_of_pos_right (by omega) hpos)) $$ [Hlev Hb Ho]
  · isplitl [Hb]; · iexact Hb
    isplitl [Ho]; · iexact Ho
    iapply (hmw.trans (Transfers.MayWaits.elim bSem)) $$ Hlev
  rw [← Nat.succ_mul]
  iintro ⟨Hb, Ho⟩
  iapply Hk
  isplitl [Hb]; · iexact Hb
  ihave Ho := (Ow_insert d i hW' bSem) $$ Ho
  unfold Ow
  iexact Ho

end Tile

end Cert.Proof.KI
-- ==== Proof.KI.Issue.lean ====
/-
  The task's parts that start block copies, and the words they read: a part takes `a` copies started to `b` copies started.
-/
module

public import proofs.«01_k».proof.Proof.KI.Steps

@[expose] public section

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch Flight pending pending_zero pending_succ not_mem_pending_succ)

variable {F : FTy → Type}

local notation "𝕄" => MT nD τ sig (HIx 1) (Elt F) ℕ UU ℕ

/-! ## The words -/

/-- Lane `k` of a register of 16 words. -/
def ln (k : ℕ) : S16.Idx := ix S16 (by decide) ![k]

theorem lane_read (n : ℕ) (hn : n < 16) (v : IVec S16 32) (h : S16.Slices ![n] S1) :
    extractAt ![0] (extractStridedSlice S1 ![n] v h) inpos_S1_p0 = v (ln n) := by
  show v _ = v _
  congr 1
  refine eq_ix (s := S16) (h := by decide) (v := ![n]) fun a => ?_
  match a with
  | 0 => rfl

variable (tv : S1024.Idx → BitVec 32)

/-- The register `v` names, in lane `k`, the first column of the block of row `b + k`'s target. -/
def Names (v : IVec S16 32) (b : ℕ) : Prop := ∀ k, k < 16 → (v (ln k)).toNat = stN tv (b + k)

/-- Every target names a column. -/
def InR : Prop := ∀ r, (tv r).toNat < 100000

theorem good_of (hr : InR tv) {w : BitVec 32} {r : ℕ} (h : w.toNat = stN tv r) : good w := by
  have h1 : tw tv r < 100000 := hr _
  unfold good; rw [h]; unfold stN
  exact ⟨⟨_, Nat.mul_comm _ _⟩, by omega⟩

/-- A word's block of 128: shifted right by seven and back. -/
theorem shifts (t : BitVec 32) (ht : t.toNat < 100000) :
    (IntOp.shli .vector (IntOp.shrsi .vector t 7#32) 7#32).toNat = t.toNat / 128 * 128 := by
  have hm : t.msb = false := by
    rw [BitVec.msb_eq_false_iff_two_mul_lt]; omega
  have e1 : IntOp.shrsi .vector t 7#32 = t.sshiftRight' 7#32 := by unfold IntOp.shrsi; rw [if_pos (by decide)]
  have e2 : t.sshiftRight' 7#32 = t >>> 7 := by
    show t.sshiftRight 7 = _
    rw [BitVec.sshiftRight_eq_of_msb_false hm]
  have e3 : (t >>> 7).toNat = t.toNat / 128 := by
    rw [BitVec.toNat_ushiftRight, Nat.shiftRight_eq_div_pow]
  rw [e1, e2]
  unfold IntOp.shli
  rw [if_pos (by decide)]
  show ((t >>> 7) <<< (7#32).toNat).toNat = _
  rw [BitVec.toNat_shiftLeft, e3]
  show (t.toNat / 128) <<< 7 % 2 ^ 32 = _
  rw [Nat.shiftLeft_eq]
  omega

/-- The shifted register names the blocks. -/
theorem names_of (hr : InR tv) {v w : IVec S16 32} {b : ℕ} (hv : ∀ k, k < 16 → v (ln k) = tv (p1 (b + k)))
    (hw : ∀ x, w x = IntOp.shli .vector (IntOp.shrsi .vector (v x) 7#32) 7#32) : Names tv w b := by
  intro k hk
  rw [hw, hv k hk, shifts _ (hr _)]
  rfl

/-- The corner of a block copy's source. -/
theorem corner (i : grid0.Coords) (j : ℕ) (c w : BitVec 32) (hc : c.toNat = j / 8 * 8) (hj : j < 32) (hw : w.toNat = stN tv (baseN i + j)) :
    ![(Scalar.addi (bw i) c).toNat, w.toNat] = ![baseN i + j / 8 * 8, stN tv (baseN i + j)] := by
  rw [bw_add_toNat i c (by omega), hc, hw]

/-! ## The parts -/

variable (d : Dev nD) (i : grid0.Coords) (xp : S1024x100096.Idx → F .f32) [FloatOps F] [Named F]

/-- Part 2: copies 2 to 5 started. -/
theorem part2 (hr : InR tv) (v9 : IVec S16 32) (hn : Names tv v9 (baseN i)) (w : BitVec 32) (hv2 : w.toNat = stN tv (baseN i + 2)) :
    Iss d i tv xp 2 ⊢ wp frame (wpE (defs₀ (F := F)) 𝒱₀ (thr d i) none) Set.univ (k0_part2 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 (bw i) v9 w)
      fun r => iprop(⌜r.2.2.2.2.2.2.2.toNat = stN tv (baseN i + 6)⌝ ∗ Iss d i tv xp 6) := by
  have hv3 : (extractAt ![0] (k0_pay8 v9) inpos_S1_p0).toNat = stN tv (baseN i + 3) :=
    (congrArg BitVec.toNat (lane_read 3 (by omega) v9 slices_S16_o3_S1)).trans (hn 3 (by omega))
  have hv4 : (extractAt ![0] (k0_pay9 v9) inpos_S1_p0).toNat = stN tv (baseN i + 4) :=
    (congrArg BitVec.toNat (lane_read 4 (by omega) v9 slices_S16_o4_S1)).trans (hn 4 (by omega))
  have hv5 : (extractAt ![0] (k0_pay10 v9) inpos_S1_p0).toNat = stN tv (baseN i + 5) :=
    (congrArg BitVec.toNat (lane_read 5 (by omega) v9 slices_S16_o5_S1)).trans (hn 5 (by omega))
  have hv6 : (extractAt ![0] (k0_pay11 v9) inpos_S1_p0).toNat = stN tv (baseN i + 6) :=
    (congrArg BitVec.toNat (lane_read 6 (by omega) v9 slices_S16_o6_S1)).trans (hn 6 (by omega))
  simp only [k0_part2_eq_skeleton]; unfold k0_part2_skel
  simp only [Prog.lift, Prog.bind_op, Prog.bind_ret, Prog.pure_eq_ret]
  iintro H
  rw [wp_assume_of _ _ _ _ (chk3_of i (good_of tv hr hv2))]
  iapply (issue_step d i tv xp 2 (by omega) _ (k0_off5 i w) rfl (corner tv i 2 0#32 _ rfl (by omega) hv2) _ _) $$ H
  iintro H
  rw [wp_assume_of _ _ _ _ (chk4_of i (good_of tv hr hv3))]
  iapply (issue_step d i tv xp 3 (by omega) _ (k0_off6 i _) rfl (corner tv i 3 0#32 _ rfl (by omega) hv3) _ _) $$ H
  iintro H
  rw [wp_assume_of _ _ _ _ (chk5_of i (good_of tv hr hv4))]
  iapply (issue_step d i tv xp 4 (by omega) _ (k0_off7 i _) rfl (corner tv i 4 0#32 _ rfl (by omega) hv4) _ _) $$ H
  iintro H
  rw [wp_assume_of _ _ _ _ (chk6_of i (good_of tv hr hv5))]
  iapply (issue_step d i tv xp 5 (by omega) _ (k0_off8 i _) rfl (corner tv i 5 0#32 _ rfl (by omega) hv5) _ _) $$ H
  iintro H
  rw [wp_ret]; imodintro
  isplitr
  · ipureintro; exact hv6
  · iexact H

/-- Part 3: copies 6 to 9 started. -/
theorem part3 (hr : InR tv) (v9 : IVec S16 32) (hn : Names tv v9 (baseN i)) (w : BitVec 32) (hv6 : w.toNat = stN tv (baseN i + 6)) :
    Iss d i tv xp 6 ⊢ wp frame (wpE (defs₀ (F := F)) 𝒱₀ (thr d i) none) Set.univ (k0_part3 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 (bw i) v9 w)
      fun r => iprop(⌜r.2.2.2.2.2.2.2.toNat = stN tv (baseN i + 10)⌝ ∗ Iss d i tv xp 10) := by
  have hv7 : (extractAt ![0] (k0_pay12 v9) inpos_S1_p0).toNat = stN tv (baseN i + 7) :=
    (congrArg BitVec.toNat (lane_read 7 (by omega) v9 slices_S16_o7_S1)).trans (hn 7 (by omega))
  have hv8 : (extractAt ![0] (k0_pay13 v9) inpos_S1_p0).toNat = stN tv (baseN i + 8) :=
    (congrArg BitVec.toNat (lane_read 8 (by omega) v9 slices_S16_o8_S1)).trans (hn 8 (by omega))
  have hv9 : (extractAt ![0] (k0_pay14 v9) inpos_S1_p0).toNat = stN tv (baseN i + 9) :=
    (congrArg BitVec.toNat (lane_read 9 (by omega) v9 slices_S16_o9_S1)).trans (hn 9 (by omega))
  have hv10 : (extractAt ![0] (k0_pay15 v9) inpos_S1_p0).toNat = stN tv (baseN i + 10) :=
    (congrArg BitVec.toNat (lane_read 10 (by omega) v9 slices_S16_o10_S1)).trans (hn 10 (by omega))
  simp only [k0_part3_eq_skeleton]; unfold k0_part3_skel
  simp only [Prog.lift, Prog.bind_op, Prog.bind_ret, Prog.pure_eq_ret]
  iintro H
  rw [wp_assume_of _ _ _ _ (chk7_of i (good_of tv hr hv6))]
  iapply (issue_step d i tv xp 6 (by omega) _ (k0_off9 i w) rfl (corner tv i 6 0#32 _ rfl (by omega) hv6) _ _) $$ H
  iintro H
  rw [wp_assume_of _ _ _ _ (chk8_of i (good_of tv hr hv7))]
  iapply (issue_step d i tv xp 7 (by omega) _ (k0_off10 i _) rfl (corner tv i 7 0#32 _ rfl (by omega) hv7) _ _) $$ H
  iintro H
  rw [wp_assume_of _ _ _ _ (chk9_of i (good_of tv hr hv8))]
  iapply (issue_step d i tv xp 8 (by omega) _ (k0_off11 i _) rfl (corner tv i 8 8#32 _ rfl (by omega) hv8) _ _) $$ H
  iintro H
  rw [wp_assume_of _ _ _ _ (chk10_of i (good_of tv hr hv9))]
  iapply (issue_step d i tv xp 9 (by omega) _ (k0_off12 i _) rfl (corner tv i 9 8#32 _ rfl (by omega) hv9) _ _) $$ H
  iintro H
  rw [wp_ret]; imodintro
  isplitr
  · ipureintro; exact hv10
  · iexact H

/-- Part 4: copies 10 to 13 started. -/
theorem part4 (hr : InR tv) (v9 : IVec S16 32) (hn : Names tv v9 (baseN i)) (w : BitVec 32) (hv10 : w.toNat = stN tv (baseN i + 10)) :
    Iss d i tv xp 10 ⊢ wp frame (wpE (defs₀ (F := F)) 𝒱₀ (thr d i) none) Set.univ (k0_part4 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 (bw i) v9 w)
      fun r => iprop(⌜r.2.2.2.2.2.2.2.toNat = stN tv (baseN i + 14)⌝ ∗ Iss d i tv xp 14) := by
  have hv11 : (extractAt ![0] (k0_pay16 v9) inpos_S1_p0).toNat = stN tv (baseN i + 11) :=
    (congrArg BitVec.toNat (lane_read 11 (by omega) v9 slices_S16_o11_S1)).trans (hn 11 (by omega))
  have hv12 : (extractAt ![0] (k0_pay17 v9) inpos_S1_p0).toNat = stN tv (baseN i + 12) :=
    (congrArg BitVec.toNat (lane_read 12 (by omega) v9 slices_S16_o12_S1)).trans (hn 12 (by omega))
  have hv13 : (extractAt ![0] (k0_pay18 v9) inpos_S1_p0).toNat = stN tv (baseN i + 13) :=
    (congrArg BitVec.toNat (lane_read 13 (by omega) v9 slices_S16_o13_S1)).trans (hn 13 (by omega))
  have hv14 : (extractAt ![0] (k0_pay19 v9) inpos_S1_p0).toNat = stN tv (baseN i + 14) :=
    (congrArg BitVec.toNat (lane_read 14 (by omega) v9 slices_S16_o14_S1)).trans (hn 14 (by omega))
  simp only [k0_part4_eq_skeleton]; unfold k0_part4_skel
  simp only [Prog.lift, Prog.bind_op, Prog.bind_ret, Prog.pure_eq_ret]
  iintro H
  rw [wp_assume_of _ _ _ _ (chk11_of i (good_of tv hr hv10))]
  iapply (issue_step d i tv xp 10 (by omega) _ (k0_off13 i w) rfl (corner tv i 10 8#32 _ rfl (by omega) hv10) _ _) $$ H
  iintro H
  rw [wp_assume_of _ _ _ _ (chk12_of i (good_of tv hr hv11))]
  iapply (issue_step d i tv xp 11 (by omega) _ (k0_off14 i _) rfl (corner tv i 11 8#32 _ rfl (by omega) hv11) _ _) $$ H
  iintro H
  rw [wp_assume_of _ _ _ _ (chk13_of i (good_of tv hr hv12))]
  iapply (issue_step d i tv xp 12 (by omega) _ (k0_off15 i _) rfl (corner tv i 12 8#32 _ rfl (by omega) hv12) _ _) $$ H
  iintro H
  rw [wp_assume_of _ _ _ _ (chk14_of i (good_of tv hr hv13))]
  iapply (issue_step d i tv xp 13 (by omega) _ (k0_off16 i _) rfl (corner tv i 13 8#32 _ rfl (by omega) hv13) _ _) $$ H
  iintro H
  rw [wp_ret]; imodintro
  isplitr
  · ipureintro; exact hv14
  · iexact H

/-- Part 6: copies 17 to 20 started. -/
theorem part6 (hr : InR tv) (v142 : IVec S16 32) (hn : Names tv v142 (baseN i + 16)) (w : BitVec 32) (hv17 : w.toNat = stN tv (baseN i + 17)) (hw : k0_chk18 i w) :
    Iss d i tv xp 17 ⊢ wp frame (wpE (defs₀ (F := F)) 𝒱₀ (thr d i) none) Set.univ (k0_part6 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 (bw i) v142 w hw)
      fun r => iprop(⌜r.2.2.2.2.2.2.1.toNat = stN tv (baseN i + 21)⌝ ∗ Iss d i tv xp 21) := by
  have hv18 : (extractAt ![0] (k0_pay24 v142) inpos_S1_p0).toNat = stN tv (baseN i + 18) :=
    (congrArg BitVec.toNat (lane_read 2 (by omega) v142 slices_S16_o2_S1)).trans (hn 2 (by omega))
  have hv19 : (extractAt ![0] (k0_pay25 v142) inpos_S1_p0).toNat = stN tv (baseN i + 19) :=
    (congrArg BitVec.toNat (lane_read 3 (by omega) v142 slices_S16_o3_S1)).trans (hn 3 (by omega))
  have hv20 : (extractAt ![0] (k0_pay26 v142) inpos_S1_p0).toNat = stN tv (baseN i + 20) :=
    (congrArg BitVec.toNat (lane_read 4 (by omega) v142 slices_S16_o4_S1)).trans (hn 4 (by omega))
  have hv21 : (extractAt ![0] (k0_pay27 v142) inpos_S1_p0).toNat = stN tv (baseN i + 21) :=
    (congrArg BitVec.toNat (lane_read 5 (by omega) v142 slices_S16_o5_S1)).trans (hn 5 (by omega))
  simp only [k0_part6_eq_skeleton]; unfold k0_part6_skel
  simp only [Prog.lift, Prog.bind_op, Prog.bind_ret, Prog.pure_eq_ret]
  iintro H
  iapply (issue_step d i tv xp 17 (by omega) _ (k0_off20 i w) rfl (corner tv i 17 16#32 _ rfl (by omega) hv17) _ _) $$ H
  iintro H
  rw [wp_assume_of _ _ _ _ (chk19_of i (good_of tv hr hv18))]
  iapply (issue_step d i tv xp 18 (by omega) _ (k0_off21 i _) rfl (corner tv i 18 16#32 _ rfl (by omega) hv18) _ _) $$ H
  iintro H
  rw [wp_assume_of _ _ _ _ (chk20_of i (good_of tv hr hv19))]
  iapply (issue_step d i tv xp 19 (by omega) _ (k0_off22 i _) rfl (corner tv i 19 16#32 _ rfl (by omega) hv19) _ _) $$ H
  iintro H
  rw [wp_assume_of _ _ _ _ (chk21_of i (good_of tv hr hv20))]
  iapply (issue_step d i tv xp 20 (by omega) _ (k0_off23 i _) rfl (corner tv i 20 16#32 _ rfl (by omega) hv20) _ _) $$ H
  iintro H
  rw [wp_assume_of _ _ _ _ (chk22_of i (good_of tv hr hv21))]
  rw [wp_ret]; imodintro
  isplitr
  · ipureintro; exact hv21
  · iexact H

/-- Part 7: copies 21 to 24 started. -/
theorem part7 (hr : InR tv) (v142 : IVec S16 32) (hn : Names tv v142 (baseN i + 16)) (w : BitVec 32) (hv21 : w.toNat = stN tv (baseN i + 21)) (hw : k0_chk22 i w) :
    Iss d i tv xp 21 ⊢ wp frame (wpE (defs₀ (F := F)) 𝒱₀ (thr d i) none) Set.univ (k0_part7 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 (bw i) v142 w hw)
      fun r => iprop(⌜r.2.2.2.2.2.2.1.toNat = stN tv (baseN i + 25)⌝ ∗ Iss d i tv xp 25) := by
  have hv22 : (extractAt ![0] (k0_pay28 v142) inpos_S1_p0).toNat = stN tv (baseN i + 22) :=
    (congrArg BitVec.toNat (lane_read 6 (by omega) v142 slices_S16_o6_S1)).trans (hn 6 (by omega))
  have hv23 : (extractAt ![0] (k0_pay29 v142) inpos_S1_p0).toNat = stN tv (baseN i + 23) :=
    (congrArg BitVec.toNat (lane_read 7 (by omega) v142 slices_S16_o7_S1)).trans (hn 7 (by omega))
  have hv24 : (extractAt ![0] (k0_pay30 v142) inpos_S1_p0).toNat = stN tv (baseN i + 24) :=
    (congrArg BitVec.toNat (lane_read 8 (by omega) v142 slices_S16_o8_S1)).trans (hn 8 (by omega))
  have hv25 : (extractAt ![0] (k0_pay31 v142) inpos_S1_p0).toNat = stN tv (baseN i + 25) :=
    (congrArg BitVec.toNat (lane_read 9 (by omega) v142 slices_S16_o9_S1)).trans (hn 9 (by omega))
  simp only [k0_part7_eq_skeleton]; unfold k0_part7_skel
  simp only [Prog.lift, Prog.bind_op, Prog.bind_ret, Prog.pure_eq_ret]
  iintro H
  iapply (issue_step d i tv xp 21 (by omega) _ (k0_off24 i w) rfl (corner tv i 21 16#32 _ rfl (by omega) hv21) _ _) $$ H
  iintro H
  rw [wp_assume_of _ _ _ _ (chk23_of i (good_of tv hr hv22))]
  iapply (issue_step d i tv xp 22 (by omega) _ (k0_off25 i _) rfl (corner tv i 22 16#32 _ rfl (by omega) hv22) _ _) $$ H
  iintro H
  rw [wp_assume_of _ _ _ _ (chk24_of i (good_of tv hr hv23))]
  iapply (issue_step d i tv xp 23 (by omega) _ (k0_off26 i _) rfl (corner tv i 23 16#32 _ rfl (by omega) hv23) _ _) $$ H
  iintro H
  rw [wp_assume_of _ _ _ _ (chk25_of i (good_of tv hr hv24))]
  iapply (issue_step d i tv xp 24 (by omega) _ (k0_off27 i _) rfl (corner tv i 24 24#32 _ rfl (by omega) hv24) _ _) $$ H
  iintro H
  rw [wp_assume_of _ _ _ _ (chk26_of i (good_of tv hr hv25))]
  rw [wp_ret]; imodintro
  isplitr
  · ipureintro; exact hv25
  · iexact H

/-- Part 8: copies 25 to 28 started. -/
theorem part8 (hr : InR tv) (v142 : IVec S16 32) (hn : Names tv v142 (baseN i + 16)) (w : BitVec 32) (hv25 : w.toNat = stN tv (baseN i + 25)) (hw : k0_chk26 i w) :
    Iss d i tv xp 25 ⊢ wp frame (wpE (defs₀ (F := F)) 𝒱₀ (thr d i) none) Set.univ (k0_part8 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 (bw i) v142 w hw)
      fun r => iprop(⌜r.2.2.2.2.2.2.1.toNat = stN tv (baseN i + 29)⌝ ∗ Iss d i tv xp 29) := by
  have hv26 : (extractAt ![0] (k0_pay32 v142) inpos_S1_p0).toNat = stN tv (baseN i + 26) :=
    (congrArg BitVec.toNat (lane_read 10 (by omega) v142 slices_S16_o10_S1)).trans (hn 10 (by omega))
  have hv27 : (extractAt ![0] (k0_pay33 v142) inpos_S1_p0).toNat = stN tv (baseN i + 27) :=
    (congrArg BitVec.toNat (lane_read 11 (by omega) v142 slices_S16_o11_S1)).trans (hn 11 (by omega))
  have hv28 : (extractAt ![0] (k0_pay34 v142) inpos_S1_p0).toNat = stN tv (baseN i + 28) :=
    (congrArg BitVec.toNat (lane_read 12 (by omega) v142 slices_S16_o12_S1)).trans (hn 12 (by omega))
  have hv29 : (extractAt ![0] (k0_pay35 v142) inpos_S1_p0).toNat = stN tv (baseN i + 29) :=
    (congrArg BitVec.toNat (lane_read 13 (by omega) v142 slices_S16_o13_S1)).trans (hn 13 (by omega))
  simp only [k0_part8_eq_skeleton]; unfold k0_part8_skel
  simp only [Prog.lift, Prog.bind_op, Prog.bind_ret, Prog.pure_eq_ret]
  iintro H
  iapply (issue_step d i tv xp 25 (by omega) _ (k0_off28 i w) rfl (corner tv i 25 24#32 _ rfl (by omega) hv25) _ _) $$ H
  iintro H
  rw [wp_assume_of _ _ _ _ (chk27_of i (good_of tv hr hv26))]
  iapply (issue_step d i tv xp 26 (by omega) _ (k0_off29 i _) rfl (corner tv i 26 24#32 _ rfl (by omega) hv26) _ _) $$ H
  iintro H
  rw [wp_assume_of _ _ _ _ (chk28_of i (good_of tv hr hv27))]
  iapply (issue_step d i tv xp 27 (by omega) _ (k0_off30 i _) rfl (corner tv i 27 24#32 _ rfl (by omega) hv27) _ _) $$ H
  iintro H
  rw [wp_assume_of _ _ _ _ (chk29_of i (good_of tv hr hv28))]
  iapply (issue_step d i tv xp 28 (by omega) _ (k0_off31 i _) rfl (corner tv i 28 24#32 _ rfl (by omega) hv28) _ _) $$ H
  iintro H
  rw [wp_assume_of _ _ _ _ (chk30_of i (good_of tv hr hv29))]
  rw [wp_ret]; imodintro
  isplitr
  · ipureintro; exact hv29
  · iexact H

end Cert.Proof.KI
-- ==== Proof.KI.Parts.lean ====
/-
  The task's parts that also move the targets and the first columns, and those that wait for the block copies.
-/
module

public import proofs.«01_k».proof.Proof.KI.Issue

@[expose] public section

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch Flight pending pending_zero pending_succ not_mem_pending_succ)

variable {F : FTy → Type}

local notation "𝕄" => MT nD τ sig (HIx 1) (Elt F) ℕ UU ℕ

variable (tv : S1024.Idx → BitVec 32) (d : Dev nD) (i : grid0.Coords) (xp : S1024x100096.Idx → F .f32) [FloatOps F] [Named F]

/-! ## What the two first copies leave -/

/-- Entry `k` of a buffer of 32. -/
def p32 (k : ℕ) : S32.Idx := ix S32 (by decide) ![k]

/-- The target buffer after its copy. -/
theorem tbuf_written (h : ∀ a, k0_off1 i a + S32.size a ≤ S1024.size a) (f : Buf (Elt F) (sT.view.loc (thr d i))) :
    sT.view.write (Elt F) f ((ReadAs.same : ReadAs (Elt F) S32 .i32 S32 .i32).apply
      ((tW.slice (Rect.unit (s := S1024) (k0_off1 i) S32.size h) (fun _ => rfl)).view.read (Elt F) tv)) Finset.univ
      = (tbufV tv i : Buf (Elt F) (sT.view.loc (thr d i))) := by
  refine (View.write_whole_univ _ _ _).trans ?_
  funext k
  show tv ((Rect.unit (s := S1024) (k0_off1 i) S32.size h).emb k) = tv (p1 _)
  congr 1
  refine eq_ix (s := S1024) (h := by decide) (v := ![baseN i + (k 0).val]) fun a => ?_
  match a with
  | 0 => show (bw i).toNat + 1 * (k 0).val = baseN i + (k 0).val; rw [bw_toNat, Nat.one_mul]

/-- The first-columns buffer after its copy. -/
theorem x0_written (h : ∀ a, k0_off2 i a + S32x128.size a ≤ S1024x100096.size a) (f : Buf (Elt F) (sX.view.loc (thr d i))) :
    sX.view.write (Elt F) f ((ReadAs.same : ReadAs (Elt F) S32x128 .f32 S32x128 .f32).apply
      ((xW.slice (Rect.unit (s := S1024x100096) (k0_off2 i) S32x128.size h) (fun _ => rfl)).view.read (Elt F) xp)) Finset.univ
      = (x0V xp i : Buf (Elt F) (sX.view.loc (thr d i))) := by
  refine (View.write_whole_univ _ _ _).trans ?_
  funext k
  show xp ((Rect.unit (s := S1024x100096) (k0_off2 i) S32x128.size h).emb k) = xp (px _ _)
  congr 1
  refine eq_ix (s := S1024x100096) (h := by decide) (v := ![baseN i + (k 0).val, (k 1).val]) fun a => ?_
  match a with
  | 0 => show (bw i).toNat + 1 * (k 0).val = baseN i + (k 0).val; rw [bw_toNat, Nat.one_mul]
  | 1 => show 0 + 1 * (k 1).val = (k 1).val; omega

/-- The 16 lanes loaded from entry `o` of the target buffer are rows `base + o …`'s targets. -/
theorem tbuf_lane (o : ℕ) (h : ∀ a, (![o] : Fin 1 → ℕ) a + S16.size a ≤ S32.size a) (k : ℕ) (hk : k < 16) :
    sT.view.readAt (Elt F) (Rect.unit (s := S32) ![o] S16.size h).toLoadRect (tbufV tv i) (ln k)
      = tv (p1 (baseN i + o + k)) := by
  show tv (p1 (baseN i + (o + 1 * (ln k 0).val))) = _
  have : (ln k 0).val = k := ix_val (s := S16) 0 hk
  rw [this, Nat.one_mul, Nat.add_assoc]

/-! ## The parts -/

/-- What the copy of the first columns credits. -/
abbrev NX : ℕ := sX.view.dmaCredit
/-- The copy of the first columns in flight. -/
def Fx : sProp 𝕄 :=
  Flight (EC (F := F)) (thr d i) (.dma cc0_scratch6.sem) none NX (sX.view.loc (thr d i) ↦{fullShare} (x0V xp i : Buf (Elt F) (sX.view.loc (thr d i))))

/-- Part 1: the targets fetched, the copy of the first columns and block copies 0 and 1 started. -/
theorem part1 (hr : InR tv) {O : CellTallies nD τ sig (HIx 1)} {W : Waits sig (HIx 1)}
    (hmw : (levAts (K (F := F)).L (K (F := F)).lev : sProp 𝕄) ⊢ Transfers.MayWaits (thr d i) none O) :
    iprop(levAts (K (F := F)).L (K (F := F)).lev ∗ Iss d i tv xp 0 ∗ (∃ q, tW.view.loc (thr d i) ↦{q} (tv : Buf (Elt F) (tW.view.loc (thr d i))))
      ∗ (∃ f, sT.view.loc (thr d i) ↦{fullShare} f) ∗ (∃ f, sX.view.loc (thr d i) ↦{fullShare} f)
      ∗ semVal (thr d i, .dma cc0_scoped0.sem) 0 ∗ semVal (thr d i, .dma cc0_scratch6.sem) 0 ∗ Ow d i O W)
    ⊢ wp frame (wpE (defs₀ (F := F)) 𝒱₀ (thr d i) none) Set.univ (k0_part1 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 )
      fun r => iprop(⌜r.1 = bw i ∧ Names tv r.2.1 (baseN i) ∧ r.2.2.2.2.2.2.toNat = stN tv (baseN i + 2)⌝ ∗ Iss d i tv xp 2
        ∗ (sT.view.loc (thr d i) ↦{fullShare} (tbufV tv i : Buf (Elt F) (sT.view.loc (thr d i)))) ∗ Fx d i xp
        ∗ semVal (thr d i, .dma cc0_scoped0.sem) 0 ∗ Ow d i O W) := by
  simp only [k0_part1_eq_skeleton]; unfold k0_part1_skel
  simp only [Prog.lift, Prog.bind_op, Prog.bind_ret, Prog.pure_eq_ret]
  iintro ⟨#Hlev, H, ⟨%qt, HtA⟩, ⟨%fT, HT⟩, ⟨%fX, HX⟩, Hs0, Hs6, Ho⟩
  -- the targets' copy
  ihave HtA := (pointsTo_split_subset (ℓ := tW.view.loc (thr d i)) (f := (tv : Buf (Elt F) (tW.view.loc (thr d i)))) (Finset.subset_univ
    (tW.slice (Rect.unit (s := S1024) (k0_off1 i) S32.size (k0_off1_inb i)) (fun _ => rfl)).view.set)).1 $$ HtA
  icases HtA with ⟨HtA, -⟩
  iapply (Transfers.wp_dmaLocal (EC (F := F)) 𝒱₀ (thr d i) none (none : HIx 1) sT.view.dmaCredit rfl (View.dmaCredit_pos _ (by decide)) (Sd := Finset.univ) (Finset.subset_univ _)) $$ [HtA HT Hs0]
  · isplitl [HtA]; · iexact HtA
    isplitl [HT]; · iexact HT
    iexact Hs0
  iintro HF
  unfold Ow
  icases Ho with ⟨%W', %hW', Ho⟩
  iapply (Transfers.wp_waitLocalO (EC (F := F)) 𝒱₀ (thr d i) none (none : HIx 1)
    (srcw := tW.slice (Rect.unit (s := S1024) (k0_off1 i) S32.size (k0_off1_inb i)) (fun _ => rfl)) (dstw := sT)
    (hsrc := View.wordExact_bits rfl) (hdst := (Memref.isWhole_whole _).wordExact) rfl) $$ [HF Ho]
  · isplitl [HF]; · iexact HF
    isplitl [Ho]; · iexact Ho
    iapply (hmw.trans (Transfers.MayWaits.elim (.dma cc0_scoped0.sem))) $$ Hlev
  iintro ⟨⟨HT, -⟩, Hs0, Ho⟩
  ihave Ho := (Ow_insert d i hW' _) $$ Ho
  ihave HT := (Entails.of_eq (congrArg (fun g => (sT.view.loc (thr d i) ↦{fullShare} g : sProp 𝕄)) (tbuf_written tv d i (k0_off1_inb i) fT))) $$ HT
  -- the first columns' copy
  unfold Iss
  icases H with ⟨HxA, Hpd, Hb⟩
  ihave HxA := (share_take (ℓ := xW.view.loc (thr d i)) ((xW.slice (Rect.unit (s := S1024x100096) (k0_off2 i) S32x128.size (k0_off2_inb i)) (fun _ => rfl)).view.set) (xp : Buf (Elt F) (xW.view.loc (thr d i)))) $$ HxA
  icases HxA with ⟨⟨%qx, Hxs⟩, HxA⟩
  iapply (Transfers.wp_dmaLocal (EC (F := F)) 𝒱₀ (thr d i) none (none : HIx 1) NX rfl (View.dmaCredit_pos _ (by decide)) (Sd := Finset.univ) (Finset.subset_univ _)) $$ [Hxs HX Hs6]
  · isplitl [Hxs]; · iexact Hxs
    isplitl [HX]; · iexact HX
    iexact Hs6
  iintro HF
  ihave HF := (Transfers.Flight_mono (EC (F := F)) (thr d i) (D' := (sX.view.loc (thr d i) ↦{fullShare} (x0V xp i : Buf (Elt F) (sX.view.loc (thr d i))))) (sep_elim_left.trans
    (Entails.of_eq (congrArg (fun g => (sX.view.loc (thr d i) ↦{fullShare} g : sProp 𝕄)) (x0_written d i xp (k0_off2_inb i) fX))))) $$ HF
  ihave H : Iss d i tv xp 0 $$ [HxA Hpd Hb]
  · unfold Iss
    isplitl [HxA]; · iexact HxA
    isplitl [Hpd]; · iexact Hpd
    iexact Hb
  -- the first words
  iapply (wp_load 𝒱₀ (thr d i) none Set.univ (m := sT) (S := Finset.univ) (Finset.subset_univ _)) $$ HT; iintro HT
  have hn : Names tv (k0_pay4 (sT.view.readAt (Elt F) (Rect.unit (s := S32) ![0] S16.size inb_S32_S16_0).toLoadRect (tbufV tv i : Buf (Elt F) (sT.view.loc (thr d i))))) (baseN i) :=
    names_of tv hr (fun k hk => tbuf_lane (F := F) tv i 0 inb_S32_S16_0 k hk) (fun _ => rfl)
  generalize hv5 : sT.view.readAt (Elt F) (Rect.unit (s := S32) ![0] S16.size inb_S32_S16_0).toLoadRect (tbufV tv i : Buf (Elt F) (sT.view.loc (thr d i))) = v5 at hn ⊢
  have hv0 : (extractAt ![0] (k0_pay5 v5) inpos_S1_p0).toNat = stN tv (baseN i + 0) :=
    (congrArg BitVec.toNat (lane_read 0 (by omega) (k0_pay4 v5) slices_S16_o0_S1)).trans (hn 0 (by omega))
  have hv1 : (extractAt ![0] (k0_pay6 v5) inpos_S1_p0).toNat = stN tv (baseN i + 1) :=
    (congrArg BitVec.toNat (lane_read 1 (by omega) (k0_pay4 v5) slices_S16_o1_S1)).trans (hn 1 (by omega))
  have hv2 : (extractAt ![0] (k0_pay7 v5) inpos_S1_p0).toNat = stN tv (baseN i + 2) :=
    (congrArg BitVec.toNat (lane_read 2 (by omega) (k0_pay4 v5) slices_S16_o2_S1)).trans (hn 2 (by omega))
  rw [wp_assume_of _ _ _ _ (chk1_of i (good_of tv hr hv0))]
  iapply (issue_step d i tv xp 0 (by omega) _ (k0_off3 i _) rfl (corner tv i 0 0#32 _ rfl (by omega) hv0) _ _) $$ H
  iintro H
  rw [wp_assume_of _ _ _ _ (chk2_of i (good_of tv hr hv1))]
  iapply (issue_step d i tv xp 1 (by omega) _ (k0_off4 i _) rfl (corner tv i 1 0#32 _ rfl (by omega) hv1) _ _) $$ H
  iintro H
  rw [wp_ret]; imodintro
  isplitr
  · ipureintro; exact ⟨rfl, hn, hv2⟩
  isplitl [H]; · unfold Iss; iexact H
  isplitl [HT]; · iexact HT
  isplitl [HF]; · unfold Fx; iexact HF
  isplitl [Hs0]; · iexact Hs0
  unfold Ow; iexact Ho

/-- Part 5: the second half of the targets read, block copies 14 to 16 started. -/
theorem part5 (hr : InR tv) (v9 : IVec S16 32) (hn9 : Names tv v9 (baseN i)) (w : BitVec 32) (hv14 : w.toNat = stN tv (baseN i + 14)) :
    iprop(Iss d i tv xp 14 ∗ (sT.view.loc (thr d i) ↦{fullShare} (tbufV tv i : Buf (Elt F) (sT.view.loc (thr d i)))))
    ⊢ wp frame (wpE (defs₀ (F := F)) 𝒱₀ (thr d i) none) Set.univ (k0_part5 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 (bw i) v9 w)
      fun r => iprop(⌜Names tv r.2.2.2.1 (baseN i + 16) ∧ r.2.2.2.2.2.2.1.toNat = stN tv (baseN i + 17)⌝ ∗ Iss d i tv xp 17
        ∗ (sT.view.loc (thr d i) ↦{fullShare} (tbufV tv i : Buf (Elt F) (sT.view.loc (thr d i))))) := by
  have hv15 : (extractAt ![0] (k0_pay20 v9) inpos_S1_p0).toNat = stN tv (baseN i + 15) :=
    (congrArg BitVec.toNat (lane_read 15 (by omega) v9 slices_S16_o15_S1)).trans (hn9 15 (by omega))
  simp only [k0_part5_eq_skeleton]; unfold k0_part5_skel
  simp only [Prog.lift, Prog.bind_op, Prog.bind_ret, Prog.pure_eq_ret]
  iintro ⟨H, HT⟩
  rw [wp_assume_of _ _ _ _ (chk15_of i (good_of tv hr hv14))]
  iapply (issue_step d i tv xp 14 (by omega) _ (k0_off17 i w) rfl (corner tv i 14 8#32 _ rfl (by omega) hv14) _ _) $$ H
  iintro H
  rw [wp_assume_of _ _ _ _ (chk16_of i (good_of tv hr hv15))]
  iapply (issue_step d i tv xp 15 (by omega) _ (k0_off18 i _) rfl (corner tv i 15 8#32 _ rfl (by omega) hv15) _ _) $$ H
  iintro H
  iapply (wp_load 𝒱₀ (thr d i) none Set.univ (m := sT) (S := Finset.univ) (Finset.subset_univ _)) $$ HT; iintro HT
  have hn : Names tv (k0_pay21 (sT.view.readAt (Elt F) (Rect.unit (s := S32) ![16] S16.size inb_S32_S16_16).toLoadRect (tbufV tv i : Buf (Elt F) (sT.view.loc (thr d i))))) (baseN i + 16) :=
    names_of tv hr (fun k hk => tbuf_lane (F := F) tv i 16 inb_S32_S16_16 k hk) (fun _ => rfl)
  generalize hv5 : sT.view.readAt (Elt F) (Rect.unit (s := S32) ![16] S16.size inb_S32_S16_16).toLoadRect (tbufV tv i : Buf (Elt F) (sT.view.loc (thr d i))) = v138 at hn ⊢
  have hv16 : (extractAt ![0] (k0_pay22 v138) inpos_S1_p0).toNat = stN tv (baseN i + 16) :=
    (congrArg BitVec.toNat (lane_read 0 (by omega) (k0_pay21 v138) slices_S16_o0_S1)).trans (hn 0 (by omega))
  have hv17 : (extractAt ![0] (k0_pay23 v138) inpos_S1_p0).toNat = stN tv (baseN i + 17) :=
    (congrArg BitVec.toNat (lane_read 1 (by omega) (k0_pay21 v138) slices_S16_o1_S1)).trans (hn 1 (by omega))
  rw [wp_assume_of _ _ _ _ (chk17_of i (good_of tv hr hv16))]
  iapply (issue_step d i tv xp 16 (by omega) _ (k0_off19 i _) rfl (corner tv i 16 16#32 _ rfl (by omega) hv16) _ _) $$ H
  iintro H
  rw [wp_assume_of _ _ _ _ (chk18_of i (good_of tv hr hv17))]
  rw [wp_ret]; imodintro
  isplitr
  · ipureintro; exact ⟨hn, hv17⟩
  isplitl [H]; · iexact H
  iexact HT

/-- Part 9: the last block copies started, the first columns arrived, two block copies waited for. -/
theorem part9 (hr : InR tv) {O : CellTallies nD τ sig (HIx 1)} {W : Waits sig (HIx 1)}
    (hmw : (levAts (K (F := F)).L (K (F := F)).lev : sProp 𝕄) ⊢ Transfers.MayWaits (thr d i) none O) (w1 : BitVec 32) (hw1 : k0_chk1 i w1) (w2 : BitVec 32) (hw2 : k0_chk2 i w2)
    (v142 : IVec S16 32) (hn : Names tv v142 (baseN i + 16)) (w : BitVec 32) (hv29 : w.toNat = stN tv (baseN i + 29)) (hw : k0_chk30 i w) :
    iprop(levAts (K (F := F)).L (K (F := F)).lev ∗ Iss d i tv xp 29 ∗ Fx d i xp ∗ Ow d i O W)
    ⊢ wp frame (wpE (defs₀ (F := F)) 𝒱₀ (thr d i) none) Set.univ (k0_part9 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 (bw i) w1 hw1 w2 hw2 v142 w hw)
      fun _ => iprop((sX.view.loc (thr d i) ↦{fullShare} (x0V xp i : Buf (Elt F) (sX.view.loc (thr d i))))
        ∗ semVal (thr d i, .dma cc0_scratch6.sem) 0 ∗ Wt d i tv xp O W 2) := by
  have hv30 : (extractAt ![0] (k0_pay36 v142) inpos_S1_p0).toNat = stN tv (baseN i + 30) :=
    (congrArg BitVec.toNat (lane_read 14 (by omega) v142 slices_S16_o14_S1)).trans (hn 14 (by omega))
  have hv31 : (extractAt ![0] (k0_pay37 v142) inpos_S1_p0).toNat = stN tv (baseN i + 31) :=
    (congrArg BitVec.toNat (lane_read 15 (by omega) v142 slices_S16_o15_S1)).trans (hn 15 (by omega))
  simp only [k0_part9_eq_skeleton]; unfold k0_part9_skel
  simp only [Prog.lift, Prog.bind_op, Prog.bind_ret, Prog.pure_eq_ret]
  iintro ⟨#Hlev, H, HF, Ho⟩
  iapply (issue_step d i tv xp 29 (by omega) _ (k0_off32 i w) rfl (corner tv i 29 24#32 _ rfl (by omega) hv29) _ _) $$ H
  iintro H
  rw [wp_assume_of _ _ _ _ (chk31_of i (good_of tv hr hv30))]
  iapply (issue_step d i tv xp 30 (by omega) _ (k0_off33 i _) rfl (corner tv i 30 24#32 _ rfl (by omega) hv30) _ _) $$ H
  iintro H
  rw [wp_assume_of _ _ _ _ (chk32_of i (good_of tv hr hv31))]
  iapply (issue_step d i tv xp 31 (by omega) _ (k0_off34 i _) rfl (corner tv i 31 24#32 _ rfl (by omega) hv31) _ _) $$ H
  iintro H
  unfold Fx Ow
  icases Ho with ⟨%W', %hW', Ho⟩
  iapply (Transfers.wp_waitLocalO (EC (F := F)) 𝒱₀ (thr d i) none (none : HIx 1)
    (srcw := xW.slice (Rect.unit (s := S1024x100096) (k0_off35 i) S32x128.size (k0_off35_inb i)) (fun _ => rfl)) (dstw := sX)
    (hsrc := View.wordExact_bits rfl) (hdst := (Memref.isWhole_whole _).wordExact) rfl) $$ [HF Ho]
  · isplitl [HF]; · iexact HF
    isplitl [Ho]; · iexact Ho
    iapply (hmw.trans (Transfers.MayWaits.elim (.dma cc0_scratch6.sem))) $$ Hlev
  iintro ⟨HX, Hs6, Ho⟩
  ihave Ho := (Ow_insert d i hW' _) $$ Ho
  unfold Iss
  icases H with ⟨-, -, Hb⟩
  ihave H : Wt d i tv xp O W 0 $$ [Hb Ho]
  · unfold Wt
    rw [Nat.zero_mul]
    isplitl [Hb]; · iexact Hb
    iexact Ho
  iapply (wait_step d i tv xp hmw 0 (by omega) _ _ _ _) $$ [H]
  · isplitr; · iexact Hlev
    iexact H
  iintro H
  iapply (wait_step d i tv xp hmw 1 (by omega) _ _ _ _) $$ [H]
  · isplitr; · iexact Hlev
    iexact H
  iintro H
  rw [wp_ret]; imodintro
  isplitl [HX]; · iexact HX
  isplitl [Hs6]; · iexact Hs6
  iexact H

/-- Part 10: block copies 2 to 8 waited for. -/
theorem part10 {O : CellTallies nD τ sig (HIx 1)} {W : Waits sig (HIx 1)}
    (hmw : (levAts (K (F := F)).L (K (F := F)).lev : sProp 𝕄) ⊢ Transfers.MayWaits (thr d i) none O)
    (w3 : BitVec 32) (hw3 : k0_chk3 i w3) (w4 : BitVec 32) (hw4 : k0_chk4 i w4) (w5 : BitVec 32) (hw5 : k0_chk5 i w5) (w6 : BitVec 32) (hw6 : k0_chk6 i w6) (w7 : BitVec 32) (hw7 : k0_chk7 i w7) (w8 : BitVec 32) (hw8 : k0_chk8 i w8) (w9 : BitVec 32) (hw9 : k0_chk9 i w9) :
    iprop(levAts (K (F := F)).L (K (F := F)).lev ∗ Wt d i tv xp O W 2)
    ⊢ wp frame (wpE (defs₀ (F := F)) 𝒱₀ (thr d i) none) Set.univ (k0_part10 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 w3 hw3 w4 hw4 w5 hw5 w6 hw6 w7 hw7 w8 hw8 w9 hw9)
      fun _ => Wt d i tv xp O W 9 := by
  simp only [k0_part10_eq_skeleton]; unfold k0_part10_skel
  simp only [Prog.lift, Prog.bind_op, Prog.bind_ret, Prog.pure_eq_ret]
  iintro ⟨#Hlev, H⟩
  iapply (wait_step d i tv xp hmw 2 (by omega) _ _ _ _) $$ [H]
  · isplitr; · iexact Hlev
    iexact H
  iintro H
  iapply (wait_step d i tv xp hmw 3 (by omega) _ _ _ _) $$ [H]
  · isplitr; · iexact Hlev
    iexact H
  iintro H
  iapply (wait_step d i tv xp hmw 4 (by omega) _ _ _ _) $$ [H]
  · isplitr; · iexact Hlev
    iexact H
  iintro H
  iapply (wait_step d i tv xp hmw 5 (by omega) _ _ _ _) $$ [H]
  · isplitr; · iexact Hlev
    iexact H
  iintro H
  iapply (wait_step d i tv xp hmw 6 (by omega) _ _ _ _) $$ [H]
  · isplitr; · iexact Hlev
    iexact H
  iintro H
  iapply (wait_step d i tv xp hmw 7 (by omega) _ _ _ _) $$ [H]
  · isplitr; · iexact Hlev
    iexact H
  iintro H
  iapply (wait_step d i tv xp hmw 8 (by omega) _ _ _ _) $$ [H]
  · isplitr; · iexact Hlev
    iexact H
  iintro H
  rw [wp_ret]; imodintro
  iexact H

/-- Part 11: block copies 9 to 14 waited for. -/
theorem part11 {O : CellTallies nD τ sig (HIx 1)} {W : Waits sig (HIx 1)}
    (hmw : (levAts (K (F := F)).L (K (F := F)).lev : sProp 𝕄) ⊢ Transfers.MayWaits (thr d i) none O)
    (w10 : BitVec 32) (hw10 : k0_chk10 i w10) (w11 : BitVec 32) (hw11 : k0_chk11 i w11) (w12 : BitVec 32) (hw12 : k0_chk12 i w12) (w13 : BitVec 32) (hw13 : k0_chk13 i w13) (w14 : BitVec 32) (hw14 : k0_chk14 i w14) (w15 : BitVec 32) (hw15 : k0_chk15 i w15) (w16 : BitVec 32) (hw16 : k0_chk16 i w16) :
    iprop(levAts (K (F := F)).L (K (F := F)).lev ∗ Wt d i tv xp O W 9)
    ⊢ wp frame (wpE (defs₀ (F := F)) 𝒱₀ (thr d i) none) Set.univ (k0_part11 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 w10 hw10 w11 hw11 w12 hw12 w13 hw13 w14 hw14 w15 hw15 w16 hw16)
      fun _ => Wt d i tv xp O W 15 := by
  simp only [k0_part11_eq_skeleton]; unfold k0_part11_skel
  simp only [Prog.lift, Prog.bind_op, Prog.bind_ret, Prog.pure_eq_ret]
  iintro ⟨#Hlev, H⟩
  iapply (wait_step d i tv xp hmw 9 (by omega) _ _ _ _) $$ [H]
  · isplitr; · iexact Hlev
    iexact H
  iintro H
  iapply (wait_step d i tv xp hmw 10 (by omega) _ _ _ _) $$ [H]
  · isplitr; · iexact Hlev
    iexact H
  iintro H
  iapply (wait_step d i tv xp hmw 11 (by omega) _ _ _ _) $$ [H]
  · isplitr; · iexact Hlev
    iexact H
  iintro H
  iapply (wait_step d i tv xp hmw 12 (by omega) _ _ _ _) $$ [H]
  · isplitr; · iexact Hlev
    iexact H
  iintro H
  iapply (wait_step d i tv xp hmw 13 (by omega) _ _ _ _) $$ [H]
  · isplitr; · iexact Hlev
    iexact H
  iintro H
  iapply (wait_step d i tv xp hmw 14 (by omega) _ _ _ _) $$ [H]
  · isplitr; · iexact Hlev
    iexact H
  iintro H
  rw [wp_ret]; imodintro
  iexact H

/-- Part 12: block copies 15 to 21 waited for. -/
theorem part12 {O : CellTallies nD τ sig (HIx 1)} {W : Waits sig (HIx 1)}
    (hmw : (levAts (K (F := F)).L (K (F := F)).lev : sProp 𝕄) ⊢ Transfers.MayWaits (thr d i) none O)
    (w16 : BitVec 32) (hw16 : k0_chk16 i w16) (w17 : BitVec 32) (hw17 : k0_chk17 i w17) (w18 : BitVec 32) (hw18 : k0_chk18 i w18) (w19 : BitVec 32) (hw19 : k0_chk19 i w19) (w20 : BitVec 32) (hw20 : k0_chk20 i w20) (w21 : BitVec 32) (hw21 : k0_chk21 i w21) (w22 : BitVec 32) (hw22 : k0_chk22 i w22) :
    iprop(levAts (K (F := F)).L (K (F := F)).lev ∗ Wt d i tv xp O W 15)
    ⊢ wp frame (wpE (defs₀ (F := F)) 𝒱₀ (thr d i) none) Set.univ (k0_part12 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 w16 hw16 w17 hw17 w18 hw18 w19 hw19 w20 hw20 w21 hw21 w22 hw22)
      fun _ => Wt d i tv xp O W 22 := by
  simp only [k0_part12_eq_skeleton]; unfold k0_part12_skel
  simp only [Prog.lift, Prog.bind_op, Prog.bind_ret, Prog.pure_eq_ret]
  iintro ⟨#Hlev, H⟩
  iapply (wait_step d i tv xp hmw 15 (by omega) _ _ _ _) $$ [H]
  · isplitr; · iexact Hlev
    iexact H
  iintro H
  iapply (wait_step d i tv xp hmw 16 (by omega) _ _ _ _) $$ [H]
  · isplitr; · iexact Hlev
    iexact H
  iintro H
  iapply (wait_step d i tv xp hmw 17 (by omega) _ _ _ _) $$ [H]
  · isplitr; · iexact Hlev
    iexact H
  iintro H
  iapply (wait_step d i tv xp hmw 18 (by omega) _ _ _ _) $$ [H]
  · isplitr; · iexact Hlev
    iexact H
  iintro H
  iapply (wait_step d i tv xp hmw 19 (by omega) _ _ _ _) $$ [H]
  · isplitr; · iexact Hlev
    iexact H
  iintro H
  iapply (wait_step d i tv xp hmw 20 (by omega) _ _ _ _) $$ [H]
  · isplitr; · iexact Hlev
    iexact H
  iintro H
  iapply (wait_step d i tv xp hmw 21 (by omega) _ _ _ _) $$ [H]
  · isplitr; · iexact Hlev
    iexact H
  iintro H
  rw [wp_ret]; imodintro
  iexact H

/-- Part 13: block copies 22 to 28 waited for. -/
theorem part13 {O : CellTallies nD τ sig (HIx 1)} {W : Waits sig (HIx 1)}
    (hmw : (levAts (K (F := F)).L (K (F := F)).lev : sProp 𝕄) ⊢ Transfers.MayWaits (thr d i) none O)
    (w23 : BitVec 32) (hw23 : k0_chk23 i w23) (w24 : BitVec 32) (hw24 : k0_chk24 i w24) (w25 : BitVec 32) (hw25 : k0_chk25 i w25) (w26 : BitVec 32) (hw26 : k0_chk26 i w26) (w27 : BitVec 32) (hw27 : k0_chk27 i w27) (w28 : BitVec 32) (hw28 : k0_chk28 i w28) (w29 : BitVec 32) (hw29 : k0_chk29 i w29) :
    iprop(levAts (K (F := F)).L (K (F := F)).lev ∗ Wt d i tv xp O W 22)
    ⊢ wp frame (wpE (defs₀ (F := F)) 𝒱₀ (thr d i) none) Set.univ (k0_part13 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 w23 hw23 w24 hw24 w25 hw25 w26 hw26 w27 hw27 w28 hw28 w29 hw29)
      fun _ => Wt d i tv xp O W 29 := by
  simp only [k0_part13_eq_skeleton]; unfold k0_part13_skel
  simp only [Prog.lift, Prog.bind_op, Prog.bind_ret, Prog.pure_eq_ret]
  iintro ⟨#Hlev, H⟩
  iapply (wait_step d i tv xp hmw 22 (by omega) _ _ _ _) $$ [H]
  · isplitr; · iexact Hlev
    iexact H
  iintro H
  iapply (wait_step d i tv xp hmw 23 (by omega) _ _ _ _) $$ [H]
  · isplitr; · iexact Hlev
    iexact H
  iintro H
  iapply (wait_step d i tv xp hmw 24 (by omega) _ _ _ _) $$ [H]
  · isplitr; · iexact Hlev
    iexact H
  iintro H
  iapply (wait_step d i tv xp hmw 25 (by omega) _ _ _ _) $$ [H]
  · isplitr; · iexact Hlev
    iexact H
  iintro H
  iapply (wait_step d i tv xp hmw 26 (by omega) _ _ _ _) $$ [H]
  · isplitr; · iexact Hlev
    iexact H
  iintro H
  iapply (wait_step d i tv xp hmw 27 (by omega) _ _ _ _) $$ [H]
  · isplitr; · iexact Hlev
    iexact H
  iintro H
  iapply (wait_step d i tv xp hmw 28 (by omega) _ _ _ _) $$ [H]
  · isplitr; · iexact Hlev
    iexact H
  iintro H
  rw [wp_ret]; imodintro
  iexact H

end Cert.Proof.KI
-- ==== Proof.KI.Gather.lean ====
/-
  The two gathers of a tile: out of the block buffer the entry of `x` at each row's target, out of the first-columns buffer its first entry;
  and the copies of the two gathered vectors out.
-/
module

public import proofs.«01_k».proof.Proof.KI.Parts

@[expose] public section

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch Flight pending pending_zero pending_succ not_mem_pending_succ)

variable {F : FTy → Type}

local notation "𝕄" => MT nD τ sig (HIx 1) (Elt F) ℕ UU ℕ

variable (tv : S1024.Idx → BitVec 32) (d : Dev nD) (i : grid0.Coords) (xp : S1024x100096.Idx → F .f32)

/-! ## The index registers -/

/-- The register `u` holds `o, o + 1, …, o + 15`. -/
def Counts (u : IVec S16 32) (o : ℕ) : Prop := ∀ x : S16.Idx, (u x).toNat = o + (x 0).val

/-- The row in the block buffer that row `u`'s own entries lie in: `8 u + (base + u) mod 8`. -/
def rowW (b u : BitVec 32) : BitVec 32 := IntOp.addi (IntOp.muli u 8#32) (IntOp.andi (IntOp.addi b u) 7#32)

theorem rowW_toNat {u : BitVec 32} {k : ℕ} (hk : k < 32) (hu : u.toNat = k) : (rowW (bw i) u).toNat = 8 * k + k % 8 := by
  have hb := bw_toNat i
  have hb2 := baseN_le i
  have hb3 : baseN i % 8 = 0 := by unfold baseN; omega
  unfold rowW IntOp.addi IntOp.muli IntOp.andi
  have h1 : ((bw i + u) &&& 7#32).toNat = k % 8 := by
    rw [BitVec.toNat_and]
    show (bw i + u).toNat &&& (2 ^ 3 - 1) = _
    rw [Nat.and_two_pow_sub_one_eq_mod, BitVec.toNat_add, hb, hu]
    omega
  rw [BitVec.toNat_add, BitVec.toNat_mul, h1, hu]
  show (k * 8 % 2 ^ 32 + k % 8) % 2 ^ 32 = _
  omega

theorem low_toNat (t : BitVec 32) : (IntOp.andi t 127#32).toNat = t.toNat % 128 := by
  unfold IntOp.andi
  rw [BitVec.toNat_and]
  show t.toNat &&& (2 ^ 7 - 1) = _
  rw [Nat.and_two_pow_sub_one_eq_mod]

theorem readB (f : S256x128.Idx → F .f32) : (sB.access (Rect.whole S256x128)).read (Elt F) f = f := by
  funext x
  show f ((Rect.whole S256x128).emb x) = f x
  rw [Rect.emb_whole_apply]
theorem readX (f : S32x128.Idx → F .f32) : (sX.access (Rect.whole S32x128)).read (Elt F) f = f := by
  funext x
  show f ((Rect.whole S32x128).emb x) = f x
  rw [Rect.emb_whole_apply]

section Regs

variable {o : ℕ} (ho : o + 16 ≤ 32) {u R C : IVec S16 32} (hu : Counts u o)

include ho hu in
/-- The two index registers of the gather from the block buffer. -/
theorem regsB (hR : ∀ x, R x = rowW (bw i) (u x)) (hC : ∀ x, C x = IntOp.andi (tv (p1 (baseN i + o + (x 0).val))) 127#32) (x : S16.Idx) :
    (R x).toNat = 8 * (o + (x 0).val) + (o + (x 0).val) % 8 ∧ (C x).toNat = tw tv (baseN i + o + (x 0).val) % 128 := by
  have hx : (x 0).val < 16 := (x 0).isLt
  rw [hR, hC, low_toNat, rowW_toNat i (k := o + (x 0).val) (by omega) (hu x)]
  exact ⟨rfl, rfl⟩

include ho hu in
theorem chkB (hR : ∀ x, R x = rowW (bw i) (u x)) (hC : ∀ x, C x = IntOp.andi (tv (p1 (baseN i + o + (x 0).val))) 127#32) :
    ∀ a x, ((![R, C] : Fin 2 → IVec S16 32) a x).toNat < S256x128.size a := by
  intro a x
  have hx : (x 0).val < 16 := (x 0).isLt
  obtain ⟨h0, h1⟩ := regsB tv i ho hu hR hC x
  match a with
  | 0 => show (R x).toNat < 256; rw [h0]; omega
  | 1 => show (C x).toNat < 128; rw [h1]; omega

include ho hu in
/-- What the gather from the block buffer reads. -/
theorem valB (hR : ∀ x, R x = rowW (bw i) (u x)) (hC : ∀ x, C x = IntOp.andi (tv (p1 (baseN i + o + (x 0).val))) 127#32)
    (h : ∀ a x, ((![R, C] : Fin 2 → IVec S16 32) a x).toNat < S256x128.size a) (x : S16.Idx) :
    loadIdx (F := F) (s := S256x128) (e := .f32) ((sB.access (Rect.whole S256x128)).read (Elt F) (tilesV tv xp i)) ![R, C] h x = goutV tv xp i (p32 (o + (x 0).val)) := by
  have hx : (x 0).val < 16 := (x 0).isLt
  obtain ⟨h0, h1⟩ := regsB tv i ho hu hR hC x
  have hb := baseN_le i
  have hp : (p32 (o + (x 0).val) 0).val = o + (x 0).val := ix_val (s := S32) (v := ![o + (x 0).val]) 0 (by show o + (x 0).val < 32; omega)
  have hq : (p1 (baseN i + (o + (x 0).val)) 0).val = baseN i + (o + (x 0).val) :=
    ix_val (s := S1024) (v := ![baseN i + (o + (x 0).val)]) 0 (by show baseN i + (o + (x 0).val) < 1024; omega)
  rw [readB]
  show xp (px (baseN i + (R x).toNat / 64 * 8 + (R x).toNat % 8) (stN tv (baseN i + (R x).toNat / 8) + (C x).toNat))
    = xp (px (p1 (baseN i + (p32 (o + (x 0).val) 0).val) 0).val (tw tv (p1 (baseN i + (p32 (o + (x 0).val) 0).val) 0).val))
  rw [hp, hq, h0, h1]
  have e1 : (8 * (o + (x 0).val) + (o + (x 0).val) % 8) / 8 = o + (x 0).val := by omega
  have e2 : baseN i + (8 * (o + (x 0).val) + (o + (x 0).val) % 8) / 64 * 8 + (8 * (o + (x 0).val) + (o + (x 0).val) % 8) % 8
      = baseN i + (o + (x 0).val) := by omega
  rw [e1, e2, Nat.add_assoc]
  unfold stN
  congr 2
  omega

include ho hu in
theorem chkX (hC : ∀ x, (C x).toNat = 0) : ∀ a x, ((![u, C] : Fin 2 → IVec S16 32) a x).toNat < S32x128.size a := by
  intro a x
  have hx : (x 0).val < 16 := (x 0).isLt
  match a with
  | 0 => show (u x).toNat < 32; rw [hu]; omega
  | 1 => show (C x).toNat < 128; rw [hC]; omega

include ho hu in
/-- What the gather from the first-columns buffer reads. -/
theorem valX (hC : ∀ x, (C x).toNat = 0) (h : ∀ a x, ((![u, C] : Fin 2 → IVec S16 32) a x).toNat < S32x128.size a) (x : S16.Idx) :
    loadIdx (F := F) (s := S32x128) (e := .f32) ((sX.access (Rect.whole S32x128)).read (Elt F) (x0V xp i)) ![u, C] h x = x0outV xp i (p32 (o + (x 0).val)) := by
  have hx : (x 0).val < 16 := (x 0).isLt
  have hb := baseN_le i
  have hp : (p32 (o + (x 0).val) 0).val = o + (x 0).val := ix_val (s := S32) (v := ![o + (x 0).val]) 0 (by show o + (x 0).val < 32; omega)
  have hq : (p1 (baseN i + (o + (x 0).val)) 0).val = baseN i + (o + (x 0).val) :=
    ix_val (s := S1024) (v := ![baseN i + (o + (x 0).val)]) 0 (by show baseN i + (o + (x 0).val) < 1024; omega)
  rw [readX]
  show xp (px (baseN i + (u x).toNat) (C x).toNat) = xp (px (p1 (baseN i + (p32 (o + (x 0).val) 0).val) 0).val 0)
  rw [hp, hq, hu, hC]

end Regs

theorem counts0 : Counts k0_pay38 0 := by
  intro x
  have hx : (x 0).val < 16 := (x 0).isLt
  show (IntOp.addi 0#32 (BitVec.ofNat 32 (0 * 16 + (x 0).val))).toNat = _
  unfold IntOp.addi
  rw [BitVec.toNat_add, BitVec.toNat_ofNat, BitVec.toNat_ofNat]
  omega

theorem counts16 : Counts (addi k0_pay42 (iota .scVector S16 32 [0] iota_S16_d0_w32_scVector)) 16 := by
  intro x
  have hx : (x 0).val < 16 := (x 0).isLt
  show (IntOp.addi 16#32 (BitVec.ofNat 32 (0 * 16 + (x 0).val))).toNat = _
  unfold IntOp.addi
  rw [BitVec.toNat_add, BitVec.toNat_ofNat, BitVec.toNat_ofNat]
  omega

theorem zero_col (x : S16.Idx) : (muli (iota .scVector S16 32 [0] iota_S16_d0_w32_scVector) (broadcast S16 0#32) x).toNat = 0 := by
  show (IntOp.muli _ 0#32).toNat = 0
  unfold IntOp.muli
  rw [BitVec.mul_zero]
  rfl

/-- A loaded lane of the targets, at a register's lane. -/
theorem tbuf_lane' (o : ℕ) (h : ∀ a, (![o] : Fin 1 → ℕ) a + S16.size a ≤ S32.size a) (x : S16.Idx) :
    sT.view.readAt (Elt F) (Rect.unit (s := S32) ![o] S16.size h).toLoadRect (tbufV tv i) x = tv (p1 (baseN i + o + (x 0).val)) := by
  show tv (p1 (baseN i + (o + 1 * (x 0).val))) = _
  rw [Nat.one_mul, Nat.add_assoc]

/-! ## The stores -/

/-- Storing the 16 entries from `o` on extends the entries that are right from `o` to `o + 16`. -/
theorem storedG (v : S32.Idx → F .f32) (o : ℕ) (ho : o + 16 ≤ 32) (h : ∀ a, (![o] : Fin 1 → ℕ) a + S16.size a ≤ S32.size a)
    (f : S32.Idx → F .f32) (w : S16.Idx → F .f32) (hf : ∀ p, (p 0).val < o → f p = v p) (hw : ∀ x, w x = v (p32 (o + (x 0).val))) :
    ∀ p : S32.Idx, (p 0).val < o + 16 →
      (sG.access (Rect.unit (s := S32) ![o] S16.size h)).write (Elt F) f w Finset.univ p = v p := by
  intro p hp
  by_cases hlt : (p 0).val < o
  · rw [View.write_of_not_mem]
    · exact hf p hlt
    · intro hm
      obtain ⟨y, -, hy⟩ := Finset.mem_map.1 hm
      have h0 : o + 1 * (y 0).val = (p 0).val := congrArg (fun q : S32.Idx => (q 0).val) hy
      omega
  · have hl : (ln ((p 0).val - o) 0).val = (p 0).val - o := ix_val (s := S16) (v := ![(p 0).val - o]) 0 (by show (p 0).val - o < 16; omega)
    have he : (sG.access (Rect.unit (s := S32) ![o] S16.size h)).emb (ln ((p 0).val - o)) = p := by
      funext a
      match a with
      | 0 =>
        apply Fin.ext
        show o + 1 * (ln ((p 0).val - o) 0).val = (p 0).val
        rw [hl]; omega
    have hpp : p = p32 (o + (ln ((p 0).val - o) 0).val) := eq_ix (s := S32) (h := by decide) fun a => by
      match a with
      | 0 => show (p 0).val = o + (ln ((p 0).val - o) 0).val; rw [hl]; omega
    have hq := View.write_emb_of_mem (Val := Elt F) (v := sG.access (Rect.unit (s := S32) ![o] S16.size h)) f w (Finset.mem_univ (ln ((p 0).val - o)))
    rw [he] at hq
    rw [hq]
    show w _ = _
    rw [hw, ← hpp]

/-- The gathered vector in `sG`, right up to entry `o`. -/
def HG (o : ℕ) : sProp 𝕄 :=
  iprop(∃ f : S32.Idx → F .f32, ⌜∀ p, (p 0).val < o → f p = goutV tv xp i p⌝ ∗ (sG.view.loc (thr d i) ↦{fullShare} (f : Buf (Elt F) (sG.view.loc (thr d i)))))

theorem HG_full : HG tv d i xp 32 ⊢ (sG.view.loc (thr d i) ↦{fullShare} (goutV tv xp i : Buf (Elt F) (sG.view.loc (thr d i))) : sProp 𝕄) := by
  unfold HG
  iintro ⟨%f, %hf, H⟩
  rw [show f = goutV tv xp i from funext fun p => hf p (p 0).isLt]
  iexact H

/-- Storing the 16 entries from `o` on extends the entries that are right from `o` to `o + 16`. -/
theorem storedZ (v : S32.Idx → F .f32) (o : ℕ) (ho : o + 16 ≤ 32) (h : ∀ a, (![o] : Fin 1 → ℕ) a + S16.size a ≤ S32.size a)
    (f : S32.Idx → F .f32) (w : S16.Idx → F .f32) (hf : ∀ p, (p 0).val < o → f p = v p) (hw : ∀ x, w x = v (p32 (o + (x 0).val))) :
    ∀ p : S32.Idx, (p 0).val < o + 16 →
      (sZ.access (Rect.unit (s := S32) ![o] S16.size h)).write (Elt F) f w Finset.univ p = v p := by
  intro p hp
  by_cases hlt : (p 0).val < o
  · rw [View.write_of_not_mem]
    · exact hf p hlt
    · intro hm
      obtain ⟨y, -, hy⟩ := Finset.mem_map.1 hm
      have h0 : o + 1 * (y 0).val = (p 0).val := congrArg (fun q : S32.Idx => (q 0).val) hy
      omega
  · have hl : (ln ((p 0).val - o) 0).val = (p 0).val - o := ix_val (s := S16) (v := ![(p 0).val - o]) 0 (by show (p 0).val - o < 16; omega)
    have he : (sZ.access (Rect.unit (s := S32) ![o] S16.size h)).emb (ln ((p 0).val - o)) = p := by
      funext a
      match a with
      | 0 =>
        apply Fin.ext
        show o + 1 * (ln ((p 0).val - o) 0).val = (p 0).val
        rw [hl]; omega
    have hpp : p = p32 (o + (ln ((p 0).val - o) 0).val) := eq_ix (s := S32) (h := by decide) fun a => by
      match a with
      | 0 => show (p 0).val = o + (ln ((p 0).val - o) 0).val; rw [hl]; omega
    have hq := View.write_emb_of_mem (Val := Elt F) (v := sZ.access (Rect.unit (s := S32) ![o] S16.size h)) f w (Finset.mem_univ (ln ((p 0).val - o)))
    rw [he] at hq
    rw [hq]
    show w _ = _
    rw [hw, ← hpp]

/-- The gathered vector in `sZ`, right up to entry `o`. -/
def HZ (o : ℕ) : sProp 𝕄 :=
  iprop(∃ f : S32.Idx → F .f32, ⌜∀ p, (p 0).val < o → f p = x0outV xp i p⌝ ∗ (sZ.view.loc (thr d i) ↦{fullShare} (f : Buf (Elt F) (sZ.view.loc (thr d i)))))

theorem HZ_full : HZ d i xp 32 ⊢ (sZ.view.loc (thr d i) ↦{fullShare} (x0outV xp i : Buf (Elt F) (sZ.view.loc (thr d i))) : sProp 𝕄) := by
  unfold HZ
  iintro ⟨%f, %hf, H⟩
  rw [show f = x0outV xp i from funext fun p => hf p (p 0).isLt]
  iexact H

/-! ## The gathers' parts -/

variable [FloatOps F] [Named F]

set_option maxHeartbeats 1000000 in
/-- Part 14: the last block copies waited for, the first 16 entries gathered. -/
theorem part14 {O : CellTallies nD τ sig (HIx 1)} {W : Waits sig (HIx 1)}
    (hmw : (levAts (K (F := F)).L (K (F := F)).lev : sProp 𝕄) ⊢ Transfers.MayWaits (thr d i) none O) (w30 : BitVec 32) (hw30 : k0_chk30 i w30) (w31 : BitVec 32) (hw31 : k0_chk31 i w31) (w32 : BitVec 32) (hw32 : k0_chk32 i w32) :
    iprop(levAts (K (F := F)).L (K (F := F)).lev ∗ Wt d i tv xp O W 29 ∗ (sT.view.loc (thr d i) ↦{fullShare} (tbufV tv i : Buf (Elt F) (sT.view.loc (thr d i))))
      ∗ (sX.view.loc (thr d i) ↦{fullShare} (x0V xp i : Buf (Elt F) (sX.view.loc (thr d i)))) ∗ HG tv d i xp 0 ∗ HZ d i xp 0)
    ⊢ wp frame (wpE (defs₀ (F := F)) 𝒱₀ (thr d i) none) Set.univ (k0_part14 i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2 (bw i) w30 hw30 w31 hw31 w32 hw32)
      fun r => iprop(⌜r.1 = iota .scVector S16 32 [0] iota_S16_d0_w32_scVector ∧ r.2 = k0_pay42⌝ ∗ (sT.view.loc (thr d i) ↦{fullShare} (tbufV tv i : Buf (Elt F) (sT.view.loc (thr d i))))
      ∗ (sX.view.loc (thr d i) ↦{fullShare} (x0V xp i : Buf (Elt F) (sX.view.loc (thr d i)))) ∗ (sB.view.loc (thr d i) ↦{fullShare} (tilesV tv xp i : Buf (Elt F) (sB.view.loc (thr d i))))
        ∗ semVal (thr d i, bSem) 0 ∗ Ow d i O W ∗ HG tv d i xp 16 ∗ HZ d i xp 16) := by
  simp only [k0_part14_eq_skeleton]; unfold k0_part14_skel
  simp only [Prog.lift, Prog.bind_op, Prog.bind_ret, Prog.pure_eq_ret]
  iintro ⟨#Hlev, H, HT, HX, HG, HZ⟩
  iapply (wait_step d i tv xp hmw 29 (by omega) _ _ _ _) $$ [H]
  · isplitr; · iexact Hlev
    iexact H
  iintro H
  iapply (wait_step d i tv xp hmw 30 (by omega) _ _ _ _) $$ [H]
  · isplitr; · iexact Hlev
    iexact H
  iintro H
  unfold Wt Ow
  icases H with ⟨Hb, %W', %hW', Ho⟩
  iapply (Transfers.wp_waitBatchLastO (EC (F := F)) 𝒱₀ (thr d i) none (none : HIx 1) (N := NB)
    (srcw := xW.slice (Rect.unit (s := S1024x100096) (k0_off34 i w32) S8x128.size (k0_off34_inb i w32 hw32)) (fun _ => rfl))
    (dstw := sB.slice (Rect.unit (s := S256x128) ![248, 0] S8x128.size inb_S256x128_S8x128_248_0) (fun _ => rfl))
    (hsrc := View.wordExact_bits rfl) (hdst := View.wordExact_bits rfl) rfl NB_pos (u := 31 * NB) (by
      show 31 * NB + NB = NB * 32; omega)) $$ [Hb Ho]
  · isplitl [Hb]; · iexact Hb
    isplitl [Ho]; · iexact Ho
    iapply (hmw.trans (Transfers.MayWaits.elim bSem)) $$ Hlev
  iintro ⟨HD, Hs5, Ho⟩
  ihave Ho := (Ow_insert d i hW' _) $$ Ho
  ihave HB : (sB.view.loc (thr d i) ↦{fullShare} (tilesV tv xp i : Buf (Elt F) (sB.view.loc (thr d i)))) $$ [HD]
  · unfold Dl
    ihave HD := (Entails.of_eq (pointsTo_biUnion (ℓ := sB.view.loc (thr d i)) (q := fullShare) (f := (tilesV tv xp i : Buf (Elt F) (sB.view.loc (thr d i)))) (Finset.univ : Finset (Fin 32)) blk
      (fun t _ t' _ h => blk_disjoint t t' h)).symm) $$ HD
    ihave HD := (Entails.of_eq (congrArg (fun S => (sB.view.loc (thr d i) ↦[S]{fullShare} (tilesV tv xp i : Buf (Elt F) (sB.view.loc (thr d i))) : sProp 𝕄)) blk_union)) $$ HD
    iexact HD
  iapply (wp_load 𝒱₀ (thr d i) none Set.univ (m := sT) (S := Finset.univ) (Finset.subset_univ _)) $$ HT; iintro HT
  have hC : ∀ x, k0_pay40 (sT.view.readAt (Elt F) (Rect.unit (s := S32) ![0] S16.size inb_S32_S16_0).toLoadRect (tbufV tv i)) x
      = IntOp.andi (tv (p1 (baseN i + 0 + (x 0).val))) 127#32 := fun x => congrArg (fun t => IntOp.andi t 127#32) (tbuf_lane' (F := F) tv i 0 inb_S32_S16_0 x)
  have hR : ∀ x, k0_pay39 (bw i) k0_pay38 x = rowW (bw i) (k0_pay38 x) := fun _ => rfl
  rw [wp_assume_of _ _ _ _ (show k0_chk33 _ _ from chkB tv i (o := 0) (by omega) counts0 hR hC)]
  iapply (SparseCore.wp_vectorLoadIdx 𝒱₀ (thr d i) none Set.univ (base := sB) (S := Finset.univ) (q := fullShare) (Finset.subset_univ _)) $$ HB; iintro HB
  have hwB := valB tv i xp (o := 0) (by omega) counts0 hR hC (chkB tv i (o := 0) (by omega) counts0 hR hC)
  unfold HG
  icases HG with ⟨%fG, %hG, HG⟩
  iapply (wp_load 𝒱₀ (thr d i) none Set.univ (m := sG) (S := Finset.univ) (Finset.subset_univ _)) $$ HG; iintro HG
  iapply (wp_store 𝒱₀ (thr d i) none Set.univ (m := sG) (r := Rect.unit (s := S32) ![0] S16.size inb_S32_S16_0) (Mk := Finset.univ) (S := Finset.univ) (Finset.subset_univ _)) $$ HG; iintro HG
  have hX0 : ∀ x, (k0_pay41 x).toNat = 0 := zero_col
  rw [wp_assume_of _ _ _ _ (show k0_chk34 _ _ from chkX (o := 0) (by omega) counts0 hX0)]
  iapply (SparseCore.wp_vectorLoadIdx 𝒱₀ (thr d i) none Set.univ (base := sX) (S := Finset.univ) (q := fullShare) (Finset.subset_univ _)) $$ HX; iintro HX
  have hwX := valX i xp (o := 0) (by omega) counts0 hX0 (chkX (o := 0) (by omega) counts0 hX0)
  unfold HZ
  icases HZ with ⟨%fZ, %hZ, HZ⟩
  iapply (wp_load 𝒱₀ (thr d i) none Set.univ (m := sZ) (S := Finset.univ) (Finset.subset_univ _)) $$ HZ; iintro HZ
  iapply (wp_store 𝒱₀ (thr d i) none Set.univ (m := sZ) (r := Rect.unit (s := S32) ![0] S16.size inb_S32_S16_0) (Mk := Finset.univ) (S := Finset.univ) (Finset.subset_univ _)) $$ HZ; iintro HZ
  rw [wp_ret]; imodintro
  isplitr
  · ipureintro; exact ⟨rfl, rfl⟩
  isplitl [HT]; · iexact HT
  isplitl [HX]; · iexact HX
  isplitl [HB]; · iexact HB
  isplitl [Hs5]; · iexact Hs5
  isplitl [Ho]; · unfold Ow; iexact Ho
  isplitl [HG]
  · iexists _
    isplitr
    · ipureintro
      exact storedG (goutV tv xp i) 0 (by omega) inb_S32_S16_0 fG _ hG hwB
    · iexact HG
  · iexists _
    isplitr
    · ipureintro
      exact storedZ (x0outV xp i) 0 (by omega) inb_S32_S16_0 fZ _ hZ hwX
    · iexact HZ

end Cert.Proof.KI
-- ==== Proof.KI.Tile.lean ====
/-
  A tile's whole task: from shares of the padded `x` and of the targets, the tile's rows of the two results filled.
-/
module

public import proofs.«01_k».proof.Proof.KI.Gather

@[expose] public section

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Batch Flight pending pending_zero pending_succ not_mem_pending_succ)

variable {F : FTy → Type}

local notation "𝕄" => MT nD τ sig (HIx 1) (Elt F) ℕ UU ℕ

variable (tv : S1024.Idx → BitVec 32) (d : Dev nD) (i : grid0.Coords) (xp : S1024x100096.Idx → F .f32)

/-! ## The rows a tile writes -/

abbrev gRow : Memref sig .scVector .hbm S32 .f32 := gW.slice (Rect.unit (s := S1024) (k0_off67 i) S32.size (k0_off67_inb i)) (fun _ => rfl)
abbrev zRow : Memref sig .scVector .hbm S32 .f32 := zW.slice (Rect.unit (s := S1024) (k0_off67 i) S32.size (k0_off67_inb i)) (fun _ => rfl)

/-- The 32 rows from `b` on. -/
def rowF (b : ℕ) : Finset S1024.Idx := Finset.univ.filter fun p => b ≤ (p 0).val ∧ (p 0).val < b + 32

theorem gRow_set : (gRow i).view.set = rowF (baseN i) := by
  ext p
  show p ∈ ((View.whole main_v1_0_scv).slice (Rect.unit (s := S1024) (k0_off67 i) S32.size (k0_off67_inb i))).set ↔ _
  rw [View.set_slice_whole, Rect.mem_set_unit]
  unfold rowF
  simp only [Finset.mem_filter, Finset.mem_univ, true_and]
  have hb : k0_off67 i 0 = baseN i := bw_toNat i
  constructor
  · intro h
    have h0 := h 0
    rw [hb] at h0; exact h0
  · intro h a
    match a with
    | 0 => rw [hb]; exact h
theorem zRow_set : (zRow i).view.set = rowF (baseN i) := by
  ext p
  show p ∈ ((View.whole main_v1_1_scv).slice (Rect.unit (s := S1024) (k0_off67 i) S32.size (k0_off67_inb i))).set ↔ _
  rw [View.set_slice_whole, Rect.mem_set_unit]
  unfold rowF
  simp only [Finset.mem_filter, Finset.mem_univ, true_and]
  have hb : k0_off67 i 0 = baseN i := bw_toNat i
  constructor
  · intro h
    have h0 := h 0
    rw [hb] at h0; exact h0
  · intro h a
    match a with
    | 0 => rw [hb]; exact h

theorem row_emb (y : S32.Idx) : (Rect.unit (s := S1024) (k0_off67 i) S32.size (k0_off67_inb i)).emb y = p1 (baseN i + (y 0).val) :=
  eq_ix (s := S1024) (h := by decide) fun a => by
    match a with
    | 0 => show (bw i).toNat + 1 * (y 0).val = baseN i + (y 0).val; rw [bw_toNat, Nat.one_mul]

/-- The tile's rows after the copy out. -/
theorem g_written (f : Buf (Elt F) ((gRow i).view.loc (thr d i))) :
    ∀ p ∈ (gRow i).view.set, ((gRow i).view.write (Elt F) f ((ReadAs.same : ReadAs (Elt F) S32 .f32 S32 .f32).apply
      (sG.view.read (Elt F) (goutV tv xp i))) Finset.univ) p = gV tv xp p := by
  intro p hp
  obtain ⟨y, -, rfl⟩ := Finset.mem_map.1 hp
  rw [View.write_emb_of_mem _ _ (Finset.mem_univ y)]
  have he : (gRow i).view.emb y = p1 (baseN i + (y 0).val) := row_emb i y
  rw [he]
  rfl

/-- The tile's rows after the copy out. -/
theorem z_written (f : Buf (Elt F) ((zRow i).view.loc (thr d i))) :
    ∀ p ∈ (zRow i).view.set, ((zRow i).view.write (Elt F) f ((ReadAs.same : ReadAs (Elt F) S32 .f32 S32 .f32).apply
      (sZ.view.read (Elt F) (x0outV xp i))) Finset.univ) p = x0full xp p := by
  intro p hp
  obtain ⟨y, -, rfl⟩ := Finset.mem_map.1 hp
  rw [View.write_emb_of_mem _ _ (Finset.mem_univ y)]
  have he : (zRow i).view.emb y = p1 (baseN i + (y 0).val) := row_emb i y
  rw [he]
  rfl

/-- The five semaphores of the task are among the tile's own cells. -/
theorem ownSems0_tile :
    (SparseCore.Cfg.ownSems0 (thr d i) : sProp 𝕄)
      = iprop(semVal ((thr d i, SemLoc.dma cc0_scoped0.sem) : GSem nD τ sig) 0 ∗ semVal ((thr d i, SemLoc.dma cc0_scratch5.sem) : GSem nD τ sig) 0 ∗ semVal ((thr d i, SemLoc.dma cc0_scratch6.sem) : GSem nD τ sig) 0 ∗ semVal ((thr d i, SemLoc.dma cc0_scoped1.sem) : GSem nD τ sig) 0 ∗ semVal ((thr d i, SemLoc.dma cc0_scoped2.sem) : GSem nD τ sig) 0
          ∗ bigSep ((((((SparseCore.Cfg.ownCells (thr d i)).erase ((thr d i, SemLoc.dma cc0_scoped0.sem) : GSem nD τ sig)).erase ((thr d i, SemLoc.dma cc0_scratch5.sem) : GSem nD τ sig)).erase ((thr d i, SemLoc.dma cc0_scratch6.sem) : GSem nD τ sig)).erase ((thr d i, SemLoc.dma cc0_scoped1.sem) : GSem nD τ sig)).erase ((thr d i, SemLoc.dma cc0_scoped2.sem) : GSem nD τ sig)) fun g => semVal g 0) := by
  unfold SparseCore.Cfg.ownSems0
  rw [SparseCore.bigSep_erase' ((SparseCore.Cfg.mem_ownCells (g := ((thr d i, SemLoc.dma cc0_scoped0.sem) : GSem nD τ sig))).mpr ⟨rfl, by show (SemLoc.dma cc0_scoped0.sem : SemLoc sig).isScoped .scVector = true; decide⟩),
    SparseCore.bigSep_erase' (Finset.mem_erase.mpr ⟨fun e => absurd (Prod.mk.inj e).2 (show (SemLoc.dma cc0_scratch5.sem : SemLoc sig) ≠ SemLoc.dma cc0_scoped0.sem by decide), (SparseCore.Cfg.mem_ownCells (g := ((thr d i, SemLoc.dma cc0_scratch5.sem) : GSem nD τ sig))).mpr ⟨rfl, by show (SemLoc.dma cc0_scratch5.sem : SemLoc sig).isScoped .scVector = true; decide⟩⟩),
    SparseCore.bigSep_erase' (Finset.mem_erase.mpr ⟨fun e => absurd (Prod.mk.inj e).2 (show (SemLoc.dma cc0_scratch6.sem : SemLoc sig) ≠ SemLoc.dma cc0_scratch5.sem by decide), Finset.mem_erase.mpr ⟨fun e => absurd (Prod.mk.inj e).2 (show (SemLoc.dma cc0_scratch6.sem : SemLoc sig) ≠ SemLoc.dma cc0_scoped0.sem by decide), (SparseCore.Cfg.mem_ownCells (g := ((thr d i, SemLoc.dma cc0_scratch6.sem) : GSem nD τ sig))).mpr ⟨rfl, by show (SemLoc.dma cc0_scratch6.sem : SemLoc sig).isScoped .scVector = true; decide⟩⟩⟩),
    SparseCore.bigSep_erase' (Finset.mem_erase.mpr ⟨fun e => absurd (Prod.mk.inj e).2 (show (SemLoc.dma cc0_scoped1.sem : SemLoc sig) ≠ SemLoc.dma cc0_scratch6.sem by decide), Finset.mem_erase.mpr ⟨fun e => absurd (Prod.mk.inj e).2 (show (SemLoc.dma cc0_scoped1.sem : SemLoc sig) ≠ SemLoc.dma cc0_scratch5.sem by decide), Finset.mem_erase.mpr ⟨fun e => absurd (Prod.mk.inj e).2 (show (SemLoc.dma cc0_scoped1.sem : SemLoc sig) ≠ SemLoc.dma cc0_scoped0.sem by decide), (SparseCore.Cfg.mem_ownCells (g := ((thr d i, SemLoc.dma cc0_scoped1.sem) : GSem nD τ sig))).mpr ⟨rfl, by show (SemLoc.dma cc0_scoped1.sem : SemLoc sig).isScoped .scVector = true; decide⟩⟩⟩⟩),
    SparseCore.bigSep_erase' (Finset.mem_erase.mpr ⟨fun e => absurd (Prod.mk.inj e).2 (show (SemLoc.dma cc0_scoped2.sem : SemLoc sig) ≠ SemLoc.dma cc0_scoped1.sem by decide), Finset.mem_erase.mpr ⟨fun e => absurd (Prod.mk.inj e).2 (show (SemLoc.dma cc0_scoped2.sem : SemLoc sig) ≠ SemLoc.dma cc0_scratch6.sem by decide), Finset.mem_erase.mpr ⟨fun e => absurd (Prod.mk.inj e).2 (show (SemLoc.dma cc0_scoped2.sem : SemLoc sig) ≠ SemLoc.dma cc0_scratch5.sem by decide), Finset.mem_erase.mpr ⟨fun e => absurd (Prod.mk.inj e).2 (show (SemLoc.dma cc0_scoped2.sem : SemLoc sig) ≠ SemLoc.dma cc0_scoped0.sem by decide), (SparseCore.Cfg.mem_ownCells (g := ((thr d i, SemLoc.dma cc0_scoped2.sem) : GSem nD τ sig))).mpr ⟨rfl, by show (SemLoc.dma cc0_scoped2.sem : SemLoc sig).isScoped .scVector = true; decide⟩⟩⟩⟩⟩)]

/-- The five scratch buffers are among the tile's own buffers. -/
theorem ownBufs_tile :
    (SparseCore.Cfg.ownBufs (thr d i) : sProp 𝕄)
      = iprop((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f)
          ∗ bigSep ((((((SparseCore.Cfg.ownRefs (τ := τ) (.scVector (cV i) (jV i))).erase ((Proc.scVector (cV i) (jV i)).devRef cc0_scratch0)).erase ((Proc.scVector (cV i) (jV i)).devRef cc0_scratch1)).erase ((Proc.scVector (cV i) (jV i)).devRef cc0_scratch2)).erase ((Proc.scVector (cV i) (jV i)).devRef cc0_scratch3)).erase ((Proc.scVector (cV i) (jV i)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i)) (b := ((Proc.scVector (cV i) (jV i)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV i) (jV i)) (b := ((Proc.scVector (cV i) (jV i)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV i) (jV i)) (b := ((Proc.scVector (cV i) (jV i)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV i) (jV i)) (b := ((Proc.scVector (cV i) (jV i)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV i) (jV i)) (b := ((Proc.scVector (cV i) (jV i)).devRef cc0_scratch4)) rfl⟩⟩⟩⟩)]

variable [FloatOps F] [Named F]

/-- The copy of a gathered vector to the tile's rows, started and waited for. -/
theorem g_out {O : CellTallies nD τ sig (HIx 1)} {W : Waits sig (HIx 1)}
    (hmw : (levAts (K (F := F)).L (K (F := F)).lev : sProp 𝕄) ⊢ Transfers.MayWaits (thr d i) none O)
    {p1 : sG.view.WordExact} {p2 : (DmaTarget.here (nD := nD) (τ := τ) (sig := sig) (p := (thr d i).2) (gRow i)).view.WordExact}
    {p3 : DmaTarget.Typed (nD := nD) (τ := τ) (sig := sig) (p := (thr d i).2) Space.vmem (.dma cc0_scoped1.sem) (.here (gRow i))}
    {p4 : sG.view.WordExact} {p5 : (gRow i).view.WordExact}
    {α : Type} {k : PUnit → Prog (TpuEff nD τ sig (Elt F) Λ₀ (thr d i).2) α} {Q : α → sProp 𝕄} :
    iprop(levAts (K (F := F)).L (K (F := F)).lev ∗ (sG.view.loc (thr d i) ↦{fullShare} (goutV tv xp i : Buf (Elt F) (sG.view.loc (thr d i))))
      ∗ (∃ f, (gRow i).view.loc (thr d i) ↦[(gRow i).view.set]{fullShare} f) ∗ semVal (thr d i, .dma cc0_scoped1.sem) 0 ∗ Ow d i O W)
    ⊢ iprop((iprop(((gRow i).view.loc (thr d i) ↦[(gRow i).view.set]{fullShare} (gV tv xp : Buf (Elt F) ((gRow i).view.loc (thr d i))))
        ∗ (sG.view.loc (thr d i) ↦{fullShare} (goutV tv xp i : Buf (Elt F) (sG.view.loc (thr d i)))) ∗ semVal (thr d i, .dma cc0_scoped1.sem) 0 ∗ Ow d i O W)
          -∗ wp frame (wpE (defs₀ (F := F)) 𝒱₀ (thr d i) none) Set.univ (k ⟨⟩) Q)
      -∗ wp frame (wpE (defs₀ (F := F)) 𝒱₀ (thr d i) none) Set.univ
        (.op (.enqueueDma sG (.here (gRow i)) (.dma cc0_scoped1.sem) p1 p2 p3) fun _ => .op (.waitDma2 cc0_scoped1.sem sG (gRow i) p4 p5) k) Q) := by
  iintro ⟨Hlev, HG, ⟨%f0, Hr⟩, Hs, Ho⟩ Hk
  ihave HG := (Entails.of_eq (congrArg (fun S => (sG.view.loc (thr d i) ↦[S]{fullShare} (goutV tv xp i : Buf (Elt F) (sG.view.loc (thr d i))) : sProp 𝕄)) (View.set_whole cc0_scratch3).symm)) $$ HG
  iapply (Transfers.wp_dmaLocal (EC (F := F)) 𝒱₀ (thr d i) none (src := sG) (dst := gRow i) (none : HIx 1) (gRow i).view.dmaCredit rfl (View.dmaCredit_pos _ (by decide))
    (Sd := (gRow i).view.set) (fun _ h => h)) $$ [HG Hr Hs]
  · isplitl [HG]; · iexact HG
    isplitl [Hr]; · iexact Hr
    iexact Hs
  iintro HF
  unfold Ow
  icases Ho with ⟨%W', %hW', Ho⟩
  iapply (Transfers.wp_waitLocalO (EC (F := F)) 𝒱₀ (thr d i) none (none : HIx 1)
    (srcw := sG) (dstw := gRow i) (hsrc := p4) (hdst := p5) rfl) $$ [HF Ho Hlev]
  · isplitl [HF]; · iexact HF
    isplitl [Ho]; · iexact Ho
    iapply (hmw.trans (Transfers.MayWaits.elim (.dma cc0_scoped1.sem))) $$ Hlev
  iintro ⟨⟨Hr, HG⟩, Hs, Ho⟩
  ihave Ho := (Ow_insert d i hW' _) $$ Ho
  ihave Hr := (Entails.of_eq (pointsTo_congr (ℓ := (gRow i).view.loc (thr d i)) (q := fullShare) (g_written tv d i xp f0))) $$ Hr
  ihave HG := (Entails.of_eq (congrArg (fun S => (sG.view.loc (thr d i) ↦[S]{fullShare} (goutV tv xp i : Buf (Elt F) (sG.view.loc (thr d i))) : sProp 𝕄)) (View.set_whole cc0_scratch3))) $$ HG
  iapply Hk
  isplitl [Hr]; · iexact Hr
  isplitl [HG]; · iexact HG
  isplitl [Hs]; · iexact Hs
  unfold Ow; iexact Ho

/-- The copy of a gathered vector to the tile's rows, started and waited for. -/
theorem z_out {O : CellTallies nD τ sig (HIx 1)} {W : Waits sig (HIx 1)}
    (hmw : (levAts (K (F := F)).L (K (F := F)).lev : sProp 𝕄) ⊢ Transfers.MayWaits (thr d i) none O)
    {p1 : sZ.view.WordExact} {p2 : (DmaTarget.here (nD := nD) (τ := τ) (sig := sig) (p := (thr d i).2) (zRow i)).view.WordExact}
    {p3 : DmaTarget.Typed (nD := nD) (τ := τ) (sig := sig) (p := (thr d i).2) Space.vmem (.dma cc0_scoped2.sem) (.here (zRow i))}
    {p4 : sZ.view.WordExact} {p5 : (zRow i).view.WordExact}
    {α : Type} {k : PUnit → Prog (TpuEff nD τ sig (Elt F) Λ₀ (thr d i).2) α} {Q : α → sProp 𝕄} :
    iprop(levAts (K (F := F)).L (K (F := F)).lev ∗ (sZ.view.loc (thr d i) ↦{fullShare} (x0outV xp i : Buf (Elt F) (sZ.view.loc (thr d i))))
      ∗ (∃ f, (zRow i).view.loc (thr d i) ↦[(zRow i).view.set]{fullShare} f) ∗ semVal (thr d i, .dma cc0_scoped2.sem) 0 ∗ Ow d i O W)
    ⊢ iprop((iprop(((zRow i).view.loc (thr d i) ↦[(zRow i).view.set]{fullShare} (x0full xp : Buf (Elt F) ((zRow i).view.loc (thr d i))))
        ∗ (sZ.view.loc (thr d i) ↦{fullShare} (x0outV xp i : Buf (Elt F) (sZ.view.loc (thr d i)))) ∗ semVal (thr d i, .dma cc0_scoped2.sem) 0 ∗ Ow d i O W)
          -∗ wp frame (wpE (defs₀ (F := F)) 𝒱₀ (thr d i) none) Set.univ (k ⟨⟩) Q)
      -∗ wp frame (wpE (defs₀ (F := F)) 𝒱₀ (thr d i) none) Set.univ
        (.op (.enqueueDma sZ (.here (zRow i)) (.dma cc0_scoped2.sem) p1 p2 p3) fun _ => .op (.waitDma2 cc0_scoped2.sem sZ (zRow i) p4 p5) k) Q) := by
  iintro ⟨Hlev, HG, ⟨%f0, Hr⟩, Hs, Ho⟩ Hk
  ihave HG := (Entails.of_eq (congrArg (fun S => (sZ.view.loc (thr d i) ↦[S]{fullShare} (x0outV xp i : Buf (Elt F) (sZ.view.loc (thr d i))) : sProp 𝕄)) (View.set_whole cc0_scratch4).symm)) $$ HG
  iapply (Transfers.wp_dmaLocal (EC (F := F)) 𝒱₀ (thr d i) none (src := sZ) (dst := zRow i) (none : HIx 1) (zRow i).view.dmaCredit rfl (View.dmaCredit_pos _ (by decide))
    (Sd := (zRow i).view.set) (fun _ h => h)) $$ [HG Hr Hs]
  · isplitl [HG]; · iexact HG
    isplitl [Hr]; · iexact Hr
    iexact Hs
  iintro HF
  unfold Ow
  icases Ho with ⟨%W', %hW', Ho⟩
  iapply (Transfers.wp_waitLocalO (EC (F := F)) 𝒱₀ (thr d i) none (none : HIx 1)
    (srcw := sZ) (dstw := zRow i) (hsrc := p4) (hdst := p5) rfl) $$ [HF Ho Hlev]
  · isplitl [HF]; · iexact HF
    isplitl [Ho]; · iexact Ho
    iapply (hmw.trans (Transfers.MayWaits.elim (.dma cc0_scoped2.sem))) $$ Hlev
  iintro ⟨⟨Hr, HG⟩, Hs, Ho⟩
  ihave Ho := (Ow_insert d i hW' _) $$ Ho
  ihave Hr := (Entails.of_eq (pointsTo_congr (ℓ := (zRow i).view.loc (thr d i)) (q := fullShare) (z_written d i xp f0))) $$ Hr
  ihave HG := (Entails.of_eq (congrArg (fun S => (sZ.view.loc (thr d i) ↦[S]{fullShare} (x0outV xp i : Buf (Elt F) (sZ.view.loc (thr d i))) : sProp 𝕄)) (View.set_whole cc0_scratch4))) $$ HG
  iapply Hk
  isplitl [Hr]; · iexact Hr
  isplitl [HG]; · iexact HG
  isplitl [Hs]; · iexact Hs
  unfold Ow; iexact Ho

/-- What a tile's task starts from, beside its own buffers and semaphores. -/
def Pre : sProp 𝕄 :=
  iprop((∃ q, xW.view.loc (thr d i) ↦{q} (xp : Buf (Elt F) (xW.view.loc (thr d i)))) ∗ (∃ q, tW.view.loc (thr d i) ↦{q} (tv : Buf (Elt F) (tW.view.loc (thr d i))))
    ∗ (∃ f, (gRow i).view.loc (thr d i) ↦[(gRow i).view.set]{fullShare} f) ∗ (∃ f, (zRow i).view.loc (thr d i) ↦[(zRow i).view.set]{fullShare} f))
/-- What it hands back: its rows of the two results. -/
def Post : sProp 𝕄 :=
  iprop(((gRow i).view.loc (thr d i) ↦[(gRow i).view.set]{fullShare} (gV tv xp : Buf (Elt F) ((gRow i).view.loc (thr d i))))
    ∗ ((zRow i).view.loc (thr d i) ↦[(zRow i).view.set]{fullShare} (x0full xp : Buf (Elt F) ((zRow i).view.loc (thr d i)))))

/-- The block buffer is its 32 blocks. -/
theorem blocks_split : iprop(∃ f, sB.view.loc (thr d i) ↦{fullShare} f)
    ⊢ (bigSep (pending 0) fun t : Fin 32 => iprop(∃ f, sB.view.loc (thr d i) ↦[blk t]{fullShare} f) : sProp 𝕄) := by
  rw [pending_zero]
  iintro ⟨%f, H⟩
  ihave H := (Entails.of_eq (congrArg (fun S => (sB.view.loc (thr d i) ↦[S]{fullShare} f : sProp 𝕄)) blk_union.symm)) $$ H
  ihave H := (Entails.of_eq (pointsTo_biUnion (ℓ := sB.view.loc (thr d i)) (q := fullShare) (f := f) (Finset.univ : Finset (Fin 32)) blk
      (fun t _ t' _ h => blk_disjoint t t' h))) $$ H
  have h1 : ∀ t : Fin 32, (sB.view.loc (thr d i) ↦[blk t]{fullShare} f : sProp 𝕄) ⊢ iprop(∃ f, sB.view.loc (thr d i) ↦[blk t]{fullShare} f) := by
    intro t; iintro H; iexists f; iexact H
  have hm : (bigSep (Finset.univ : Finset (Fin 32)) fun t => (sB.view.loc (thr d i) ↦[blk t]{fullShare} f : sProp 𝕄))
      ⊢ bigSep (Finset.univ : Finset (Fin 32)) fun t => iprop(∃ f, sB.view.loc (thr d i) ↦[blk t]{fullShare} f) :=
    bigSep_mono fun t _ => h1 t
  iapply hm; iexact H

set_option maxHeartbeats 2000000 in
/-- The task, from its own buffers and semaphores. -/
theorem tile_core (hr : InR tv) {O : CellTallies nD τ sig (HIx 1)} {W : Waits sig (HIx 1)}
    (hmw : (levAts (K (F := F)).L (K (F := F)).lev : sProp 𝕄) ⊢ Transfers.MayWaits (thr d i) none O) :
    iprop(levAts (K (F := F)).L (K (F := F)).lev ∗ Pre tv d i xp
      ∗ (∃ f, sT.view.loc (thr d i) ↦{fullShare} f) ∗ (∃ f, sB.view.loc (thr d i) ↦{fullShare} f) ∗ (∃ f, sX.view.loc (thr d i) ↦{fullShare} f) ∗ (∃ f, sG.view.loc (thr d i) ↦{fullShare} f) ∗ (∃ f, sZ.view.loc (thr d i) ↦{fullShare} f)
      ∗ semVal (thr d i, .dma cc0_scoped0.sem) 0 ∗ semVal (thr d i, .dma cc0_scratch5.sem) 0 ∗ semVal (thr d i, .dma cc0_scratch6.sem) 0 ∗ semVal (thr d i, .dma cc0_scoped1.sem) 0 ∗ semVal (thr d i, .dma cc0_scoped2.sem) 0 ∗ Ow d i O W)
    ⊢ wp frame (wpE (defs₀ (F := F)) 𝒱₀ (thr d i) none) Set.univ (cc0_sc_kernel i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2)
      fun _ => iprop(Post tv d i xp
      ∗ ((∃ f, sT.view.loc (thr d i) ↦{fullShare} f) ∗ (∃ f, sB.view.loc (thr d i) ↦{fullShare} f) ∗ (∃ f, sX.view.loc (thr d i) ↦{fullShare} f) ∗ (∃ f, sG.view.loc (thr d i) ↦{fullShare} f) ∗ (∃ f, sZ.view.loc (thr d i) ↦{fullShare} f))
      ∗ (semVal (thr d i, .dma cc0_scoped0.sem) 0 ∗ semVal (thr d i, .dma cc0_scratch5.sem) 0 ∗ semVal (thr d i, .dma cc0_scratch6.sem) 0 ∗ semVal (thr d i, .dma cc0_scoped1.sem) 0 ∗ semVal (thr d i, .dma cc0_scoped2.sem) 0) ∗ Ow d i O W) := by
  simp only [cc0_sc_kernel_eq_skeleton]; unfold cc0_sc_kernel_skel
  simp only [wp_bind]
  unfold Pre Post
  iintro ⟨#Hlev, ⟨HxA, HtA, ⟨%g0, Hgr⟩, %z0, Hzr⟩, HT, HB, HX, ⟨%fG0, HG⟩, ⟨%fZ0, HZ⟩, Hs0, Hs5, Hs6, Hs1, Hs2, Ho⟩
  ihave HB := (blocks_split (F := F) d i) $$ HB
  imod (Transfers.batch_alloc' (EC (F := F)) (thr d i) (sm := bSem) (none : HIx 1) NB (Dl d i tv xp)) $$ Hs5 with Hb
  ihave H : Iss d i tv xp 0 $$ [HxA HB Hb]
  · unfold Iss
    isplitl [HxA]; · iexact HxA
    isplitl [HB]; · iexact HB
    iexact Hb
  iapply (wp_wand_r frame _ Set.univ)
  isplitl [H HtA HT HX Hs0 Hs6 Ho]
  · iapply (part1 tv d i xp hr hmw)
    isplitr; · iexact Hlev
    isplitl [H]; · iexact H
    isplitl [HtA]; · iexact HtA
    isplitl [HT]; · iexact HT
    isplitl [HX]; · iexact HX
    isplitl [Hs0]; · iexact Hs0
    isplitl [Hs6]; · iexact Hs6
    iexact Ho
  iintro %r1 ⟨%h1, H, HT, HF, Hs0, Ho⟩
  obtain ⟨v2, v9, w1, hw1, w2, hw2, w3⟩ := r1
  obtain ⟨rfl, hn9, hv2⟩ := h1
  dsimp only at hn9 hv2 ⊢
  iapply (wp_wand_r frame _ Set.univ)
  isplitl [H]
  · iapply (part2 tv d i xp hr v9 hn9 w3 hv2)
    iexact H
  iintro %r2 ⟨%h2, H⟩
  obtain ⟨hw3, w4, hw4, w5, hw5, w6, hw6, w7⟩ := r2
  dsimp only at h2 ⊢
  iapply (wp_wand_r frame _ Set.univ)
  isplitl [H]
  · iapply (part3 tv d i xp hr v9 hn9 w7 h2)
    iexact H
  iintro %r3 ⟨%h3, H⟩
  obtain ⟨hw7, w8, hw8, w9, hw9, w10, hw10, w11⟩ := r3
  dsimp only at h3 ⊢
  iapply (wp_wand_r frame _ Set.univ)
  isplitl [H]
  · iapply (part4 tv d i xp hr v9 hn9 w11 h3)
    iexact H
  iintro %r4 ⟨%h4, H⟩
  obtain ⟨hw11, w12, hw12, w13, hw13, w14, hw14, w15⟩ := r4
  dsimp only at h4 ⊢
  iapply (wp_wand_r frame _ Set.univ)
  isplitl [H HT]
  · iapply (part5 tv d i xp hr v9 hn9 w15 h4)
    isplitl [H]; · iexact H
    iexact HT
  iintro %r5 ⟨%h5, H, HT⟩
  obtain ⟨hw15, w16, hw16, v142, w17, hw17, w18, hw18⟩ := r5
  obtain ⟨hn, h5⟩ := h5
  dsimp only at hn h5 ⊢
  iapply (wp_wand_r frame _ Set.univ)
  isplitl [H]
  · iapply (part6 tv d i xp hr v142 hn w18 h5 hw18)
    iexact H
  iintro %r6 ⟨%h6, H⟩
  obtain ⟨w19, hw19, w20, hw20, w21, hw21, w22, hw22⟩ := r6
  dsimp only at h6 ⊢
  iapply (wp_wand_r frame _ Set.univ)
  isplitl [H]
  · iapply (part7 tv d i xp hr v142 hn w22 h6 hw22)
    iexact H
  iintro %r7 ⟨%h7, H⟩
  obtain ⟨w23, hw23, w24, hw24, w25, hw25, w26, hw26⟩ := r7
  dsimp only at h7 ⊢
  iapply (wp_wand_r frame _ Set.univ)
  isplitl [H]
  · iapply (part8 tv d i xp hr v142 hn w26 h7 hw26)
    iexact H
  iintro %r8 ⟨%h8, H⟩
  obtain ⟨w27, hw27, w28, hw28, w29, hw29, w30, hw30⟩ := r8
  dsimp only at h8 ⊢
  iapply (wp_wand_r frame _ Set.univ)
  isplitl [H HF Ho]
  · iapply (part9 tv d i xp hr hmw w1 hw1 w2 hw2 v142 hn w30 h8 hw30)
    isplitr; · iexact Hlev
    isplitl [H]; · iexact H
    isplitl [HF]; · iexact HF
    iexact Ho
  iintro %r9 ⟨HX, Hs6, H⟩
  obtain ⟨w31, hw31, w32, hw32⟩ := r9
  dsimp only
  iapply (wp_wand_r frame _ Set.univ)
  isplitl [H]
  · iapply (part10 tv d i xp hmw _ hw3 _ hw4 _ hw5 _ hw6 _ hw7 _ hw8 _ hw9)
    isplitr; · iexact Hlev
    iexact H
  iintro %r10 H
  iapply (wp_wand_r frame _ Set.univ)
  isplitl [H]
  · iapply (part11 tv d i xp hmw _ hw10 _ hw11 _ hw12 _ hw13 _ hw14 _ hw15 _ hw16)
    isplitr; · iexact Hlev
    iexact H
  iintro %r11 H
  iapply (wp_wand_r frame _ Set.univ)
  isplitl [H]
  · iapply (part12 tv d i xp hmw _ hw16 _ hw17 _ hw18 _ hw19 _ hw20 _ hw21 _ hw22)
    isplitr; · iexact Hlev
    iexact H
  iintro %r12 H
  iapply (wp_wand_r frame _ Set.univ)
  isplitl [H]
  · iapply (part13 tv d i xp hmw _ hw23 _ hw24 _ hw25 _ hw26 _ hw27 _ hw28 _ hw29)
    isplitr; · iexact Hlev
    iexact H
  iintro %r13 H
  ihave HG : HG tv d i xp 0 $$ [HG]
  · unfold HG
    iexists fG0
    isplitr
    · ipureintro; exact fun p hp => absurd hp (Nat.not_lt_zero _)
    · iexact HG
  ihave HZ : HZ d i xp 0 $$ [HZ]
  · unfold HZ
    iexists fZ0
    isplitr
    · ipureintro; exact fun p hp => absurd hp (Nat.not_lt_zero _)
    · iexact HZ
  iapply (wp_wand_r frame _ Set.univ)
  isplitl [H HT HX HG HZ]
  · iapply (part14 tv d i xp hmw w30 hw30 w31 hw31 w32 hw32)
    isplitr; · iexact Hlev
    isplitl [H]; · iexact H
    isplitl [HT]; · iexact HT
    isplitl [HX]; · iexact HX
    isplitl [HG]; · iexact HG
    iexact HZ
  iintro %r14 ⟨%h14, HT, HX, HB, Hs5, Ho, HG, HZ⟩
  obtain ⟨v401, v420⟩ := r14
  dsimp only at h14
  obtain ⟨rfl, rfl⟩ := h14
  dsimp only
  simp only [Prog.lift, Prog.bind_op, Prog.bind_ret, Prog.pure_eq_ret]
  simp only [← wp_bind]
  simp only [Prog.lift, Prog.bind_op, Prog.bind_ret, Prog.pure_eq_ret]
  iapply (wp_load 𝒱₀ (thr d i) none Set.univ (m := sT) (S := Finset.univ) (Finset.subset_univ _)) $$ HT; iintro HT
  have hC : ∀ x, k0_pay2 (sT.view.readAt (Elt F) (Rect.unit (s := S32) ![16] S16.size inb_S32_S16_16).toLoadRect (tbufV tv i)) x
      = IntOp.andi (tv (p1 (baseN i + 16 + (x 0).val))) 127#32 := fun x => congrArg (fun t => IntOp.andi t 127#32) (tbuf_lane' (F := F) tv i 16 inb_S32_S16_16 x)
  have hR : ∀ x, k0_pay1 (bw i) (addi k0_pay42 (iota .scVector S16 32 [0] iota_S16_d0_w32_scVector)) x = rowW (bw i) ((addi k0_pay42 (iota .scVector S16 32 [0] iota_S16_d0_w32_scVector)) x) := fun _ => rfl
  rw [wp_assume_of _ _ _ _ (show k0_chk35 _ _ from chkB tv i (o := 16) (by omega) counts16 hR hC)]
  iapply (SparseCore.wp_vectorLoadIdx 𝒱₀ (thr d i) none Set.univ (base := sB) (S := Finset.univ) (q := fullShare) (Finset.subset_univ _)) $$ HB; iintro HB
  have hwB := valB tv i xp (o := 16) (by omega) counts16 hR hC (chkB tv i (o := 16) (by omega) counts16 hR hC)
  unfold HG
  icases HG with ⟨%fG, %hG, HG⟩
  iapply (wp_load 𝒱₀ (thr d i) none Set.univ (m := sG) (S := Finset.univ) (Finset.subset_univ _)) $$ HG; iintro HG
  iapply (wp_store 𝒱₀ (thr d i) none Set.univ (m := sG) (r := Rect.unit (s := S32) ![16] S16.size inb_S32_S16_16) (Mk := Finset.univ) (S := Finset.univ) (Finset.subset_univ _)) $$ HG; iintro HG
  have hX0 : ∀ x, (k0_pay3 (iota .scVector S16 32 [0] iota_S16_d0_w32_scVector) x).toNat = 0 := zero_col
  rw [wp_assume_of _ _ _ _ (show k0_chk36 _ _ from chkX (o := 16) (by omega) counts16 hX0)]
  iapply (SparseCore.wp_vectorLoadIdx 𝒱₀ (thr d i) none Set.univ (base := sX) (S := Finset.univ) (q := fullShare) (Finset.subset_univ _)) $$ HX; iintro HX
  have hwX := valX i xp (o := 16) (by omega) counts16 hX0 (chkX (o := 16) (by omega) counts16 hX0)
  unfold HZ
  icases HZ with ⟨%fZ, %hZ, HZ⟩
  iapply (wp_load 𝒱₀ (thr d i) none Set.univ (m := sZ) (S := Finset.univ) (Finset.subset_univ _)) $$ HZ; iintro HZ
  iapply (wp_store 𝒱₀ (thr d i) none Set.univ (m := sZ) (r := Rect.unit (s := S32) ![16] S16.size inb_S32_S16_16) (Mk := Finset.univ) (S := Finset.univ) (Finset.subset_univ _)) $$ HZ; iintro HZ
  ihave HG : HG tv d i xp 32 $$ [HG]
  · unfold HG
    iexists _
    isplitr
    · ipureintro
      exact storedG (goutV tv xp i) 16 (by omega) inb_S32_S16_16 fG _ hG hwB
    · iexact HG
  ihave HZ : HZ d i xp 32 $$ [HZ]
  · unfold HZ
    iexists _
    isplitr
    · ipureintro
      exact storedZ (x0outV xp i) 16 (by omega) inb_S32_S16_16 fZ _ hZ hwX
    · iexact HZ
  ihave HG := (HG_full tv d i xp) $$ HG
  ihave HZ := (HZ_full d i xp) $$ HZ
  iapply (g_out tv d i xp hmw) $$ [HG Hgr Hs1 Ho]
  · isplitr; · iexact Hlev
    isplitl [HG]; · iexact HG
    isplitl [Hgr]; · iexists _; iexact Hgr
    isplitl [Hs1]; · iexact Hs1
    iexact Ho
  iintro ⟨Hgr, HG, Hs1, Ho⟩
  iapply (z_out d i xp hmw) $$ [HZ Hzr Hs2 Ho]
  · isplitr; · iexact Hlev
    isplitl [HZ]; · iexact HZ
    isplitl [Hzr]; · iexists _; iexact Hzr
    isplitl [Hs2]; · iexact Hs2
    iexact Ho
  iintro ⟨Hzr, HZ, Hs2, Ho⟩
  rw [wp_ret]; imodintro
  isplitl [Hgr Hzr]
  · isplitl [Hgr]; · iexact Hgr
    iexact Hzr
  isplitl [HT HB HX HG HZ]
  · isplitl [HT]; · iexists _; iexact HT
    isplitl [HB]; · iexists _; iexact HB
    isplitl [HX]; · iexists _; iexact HX
    isplitl [HG]; · iexists _; iexact HG
    iexists _; iexact HZ
  isplitl [Hs0 Hs5 Hs6 Hs1 Hs2]
  · isplitl [Hs0]; · iexact Hs0
    isplitl [Hs5]; · iexact Hs5
    isplitl [Hs6]; · iexact Hs6
    isplitl [Hs1]; · iexact Hs1
    iexact Hs2
  unfold Ow; iexact Ho

/-- The task of a tile, as the launch wants it. -/
theorem tile_body (hr : InR tv) (O : CellTallies nD τ sig (HIx 1)) (W : Waits sig (HIx 1)) (hO : ∀ g, O g none = 0) :
    iprop(levAts (K (F := F)).L (K (F := F)).lev ∗ Pre tv d i xp ∗ scopedBufs (thr d i) ∗ scopedSems0 (thr d i) ∗ owes (thr d i) O W)
    ⊢ wp frame (wpE (defs₀ (F := F)) 𝒱₀ (thr d i) none) Set.univ (cc0_sc_kernel i xW (Memref.isWhole_whole _) tW (Memref.isWhole_whole _) gW (Memref.isWhole_whole _) zW (Memref.isWhole_whole _)
      sT (Memref.isWhole_whole _) sB (Memref.isWhole_whole _) sX (Memref.isWhole_whole _) sG (Memref.isWhole_whole _) sZ (Memref.isWhole_whole _)
      cc0_scratch5 cc0_scratch6 cc0_scoped0 cc0_scoped1 cc0_scoped2)
      fun _ => iprop(Post tv d i xp ∗ scopedBufs (thr d i) ∗ scopedSems0 (thr d i)
        ∗ ∃ W', ⌜∀ p ∈ W', p ∈ W ∨ p.2 = none⌝ ∗ owes (thr d i) O W') := by
  rw [(K (F := F)).scopedBufs_V facts d (cV i) (jV i), SparseCore.Cfg.scopedSems0_V (Val := Elt F) d (cV i) (jV i), ownSems0_tile, ownBufs_tile]
  iintro ⟨Hlev, HP, ⟨HT, HB, HX, HG, HZ, Hbufs⟩, ⟨Hs0, Hs5, Hs6, Hs1, Hs2, Hsems⟩, Ho⟩
  iapply (wp_wand_r frame _ Set.univ)
  isplitl [Hlev HP HT HB HX HG HZ Hs0 Hs5 Hs6 Hs1 Hs2 Ho]
  · iapply (tile_core tv d i xp hr (W := W) ((K (F := F)).mayWaits_none hO))
    isplitl [Hlev]; · iexact Hlev
    isplitl [HP]; · iexact HP
    isplitl [HT]; · iexact HT
    isplitl [HB]; · iexact HB
    isplitl [HX]; · iexact HX
    isplitl [HG]; · iexact HG
    isplitl [HZ]; · iexact HZ
    isplitl [Hs0]; · iexact Hs0
    isplitl [Hs5]; · iexact Hs5
    isplitl [Hs6]; · iexact Hs6
    isplitl [Hs1]; · iexact Hs1
    isplitl [Hs2]; · iexact Hs2
    unfold Ow
    iexists W
    isplitr
    · ipureintro; exact fun p hp => .inl hp
    iexact Ho
  iintro %_ ⟨HP, ⟨HT, HB, HX, HG, HZ⟩, ⟨Hs0, Hs5, Hs6, Hs1, Hs2⟩, Ho⟩
  isplitl [HP]; · iexact HP
  isplitl [HT HB HX HG HZ Hbufs]
  · isplitl [HT]; · iexact HT
    isplitl [HB]; · iexact HB
    isplitl [HX]; · iexact HX
    isplitl [HG]; · iexact HG
    isplitl [HZ]; · iexact HZ
    iexact Hbufs
  isplitl [Hs0 Hs5 Hs6 Hs1 Hs2 Hsems]
  · isplitl [Hs0]; · iexact Hs0
    isplitl [Hs5]; · iexact Hs5
    isplitl [Hs6]; · iexact Hs6
    isplitl [Hs1]; · iexact Hs1
    isplitl [Hs2]; · iexact Hs2
    iexact Hsems
  unfold Ow; iexact Ho

end Cert.Proof.KI
-- ==== Proof.KI.Launch.lean ====
/-
  The launch of the SparseCore call: what the call hands to each tile and takes back, the tiles' obligation, and the launch's ghost state.
-/
module

public import proofs.«01_k».proof.Proof.KI.Tile

@[expose] public section

noncomputable section

namespace Cert.Proof.KI

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (tv : Dev nD → S1024.Idx → BitVec 32) (xp : Dev nD → S1024x100096.Idx → F .f32)

/-! ## What the call hands over -/

/-- The rows of core `c`'s tile on subcore `s`. -/
def rowsT (c s : ℕ) : Finset S1024.Idx := rowF (32 * (2 * s + c))

/-- What a tile is given: shares of the padded `x` and of the targets, its rows of the two results at anything. -/
def goT (d : Dev nD) (c s : ℕ) : sProp 𝕄 :=
  iprop((∃ q, xLoc d ↦{q} xp d) ∗ (∃ q, tLoc d ↦{q} tv d) ∗ (∃ f, gLoc d ↦[rowsT c s]{fullShare} f) ∗ (∃ f, x0Loc d ↦[rowsT c s]{fullShare} f))
/-- What a tile gives back: its rows of the two results, filled. -/
def tdT (d : Dev nD) (c s : ℕ) : sProp 𝕄 :=
  iprop((gLoc d ↦[rowsT c s]{fullShare} gV (tv d) (xp d)) ∗ (x0Loc d ↦[rowsT c s]{fullShare} x0full (xp d)))
/-- What a core is given. -/
def stT (d : Dev nD) (c : ℕ) : sProp 𝕄 :=
  iprop((∃ q, xLoc d ↦{q} xp d) ∗ (∃ q, tLoc d ↦{q} tv d)
    ∗ (bigSep Finset.univ fun s : Fin 16 => iprop(∃ f, gLoc d ↦[rowsT c s.val]{fullShare} f))
    ∗ (bigSep Finset.univ fun s : Fin 16 => iprop(∃ f, x0Loc d ↦[rowsT c s.val]{fullShare} f)))
/-- What a core gives back. -/
def dnT (d : Dev nD) (c : ℕ) : sProp 𝕄 := bigSep Finset.univ fun s : Fin 16 => tdT tv xp d c s.val

theorem nSub_zero : (K (F := F)).nSub 0 = 16 := rfl

/-- The call's payloads. -/
def P : (K (F := F)).Pay (nD := nD) (Val := Elt F) (Name := ℕ) (U := UU) where
  st := fun q d c => match q with | 0 => stT tv xp d c.val
  dn := fun q d c => match q with | 0 => dnT tv xp d c.val
  go := fun q d c s => match q with | 0 => goT tv xp d c.val s.val
  td := fun q d c s => match q with | 0 => tdT tv xp d c.val s.val
  x := fun _ _ => iprop(emp)

instance goT_storable (d : Dev nD) (c s : ℕ) : BI.Storable (upEmb : UEmb _ 𝕄) (goT tv xp d c s) := by unfold goT; infer_instance
instance tdT_storable (d : Dev nD) (c s : ℕ) : BI.Storable (upEmb : UEmb _ 𝕄) (tdT tv xp d c s) := by unfold tdT; infer_instance
instance stT_storable (d : Dev nD) (c : ℕ) : BI.Storable (upEmb : UEmb _ 𝕄) (stT tv xp d c) := by unfold stT; infer_instance
instance dnT_storable (d : Dev nD) (c : ℕ) : BI.Storable (upEmb : UEmb _ 𝕄) (dnT tv xp d c) := by unfold dnT; infer_instance

instance P_storable : (P (F := F) tv xp).IsStorable where
  st q d c := match q with | 0 => stT_storable tv xp d c.val
  dn q d c := match q with | 0 => dnT_storable tv xp d c.val
  go q d c s := match q with | 0 => goT_storable tv xp d c.val s.val
  td q d c s := match q with | 0 => tdT_storable tv xp d c.val s.val

/-! ## The tiles' obligation -/

/-- The grid coordinates of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

theorem rows_coords (c : Fin (grid0.bound 0)) (s : Fin (grid0.bound 1)) : rowsT c.val s.val = rowF (baseN (coordsV c s)) := rfl

/-- What a tile is given is what its task starts from. -/
theorem goT_pre (d : Dev nD) (c : Fin (grid0.bound 0)) (s : Fin (grid0.bound 1)) :
    goT tv xp d c.val s.val ⊢ (Pre (tv d) d (coordsV c s) (xp d) : sProp 𝕄) := by
  unfold goT Pre
  rw [gRow_set, zRow_set, rows_coords]

/-- What a task ends with is what its tile gives back. -/
theorem post_tdT (d : Dev nD) (c : Fin (grid0.bound 0)) (s : Fin (grid0.bound 1)) :
    (Post (tv d) d (coordsV c s) (xp d) : sProp 𝕄) ⊢ tdT tv xp d c.val s.val := by
  unfold tdT Post
  rw [gRow_set, zRow_set, rows_coords]

variable [FloatOps F] [Named F]

/-- The body table at the call, on a vector subcore. -/
theorem defs₀_vector (c : Fin τ.nSC) (s : Fin τ.nSub) :
    defs₀ (F := F) (.scVector c s) 0 ()
      = SparseCore.onTile hcore0 hsub0 (fun c s => cc0_sc_kernel (coordsV c s)
          xW (Memref.isWhole_whole _) tW (Memref.isWhole_whole _) gW (Memref.isWhole_whole _) zW (Memref.isWhole_whole _)
          sT (Memref.isWhole_whole _) sB (Memref.isWhole_whole _) sX (Memref.isWhole_whole _) sG (Memref.isWhole_whole _) sZ (Memref.isWhole_whole _)
          cc0_scratch5 cc0_scratch6 cc0_scoped0 cc0_scoped1 cc0_scoped2) ⟨⟩ c s := rfl

omit [FloatOps F] [Named F] in
/-- The task's end, as the launch asks for it. -/
theorem obl_post {thr : Thread nD τ} {A A' B C : sProp 𝕄} {O : CellTallies nD τ sig (HIx 1)} {W : Waits sig (HIx 1)} {q : Fin 1} (h : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  iintro ⟨HA, HB, HC, %W', %hW', HO⟩
  isplitl [HA]; · iapply h; iexact HA
  isplitl [HB]; · iexact HB
  isplitl [HC]; · iexact HC
  iexists W'; isplitr
  · ipureintro; exact fun p hp => (hW' p hp).imp_right Or.inl
  · iexact HO

set_option maxRecDepth 20000 in
/-- Every tile runs its task from what it is given to what it gives back. -/
theorem tileObl (hr : ∀ d, InR (tv d)) : (K (F := F)).TileObl (D (F := F)) 𝒱P (P tv xp) v₀ 0 := by
  intro d c i O W hO _ _
  simp only [show (P tv xp).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine BI.Entails.trans ?_ ((tile_body (tv d) d (coordsV ⟨_, hc.1⟩ ⟨_, hc.2⟩) (xp d) (hr d) O W hO).trans
    (wp_mono frame _ _ fun _ => obl_post (post_tdT tv xp d ⟨_, hc.1⟩ ⟨_, hc.2⟩)))
  show iprop(_ ∗ _ ∗ goT tv xp d c.val i.val ∗ _) ⊢ iprop(_ ∗ Pre (tv d) d (coordsV ⟨_, hc.1⟩ ⟨_, hc.2⟩) (xp d) ∗ _)
  iintro ⟨Hl, -, Hg, H⟩
  isplitl [Hl]; · iexact Hl
  isplitl [Hg]
  · iapply (goT_pre tv xp d ⟨_, hc.1⟩ ⟨_, hc.2⟩)
    iexact Hg
  iexact H

/-! ## A core's operands split over its tiles -/

omit [FloatOps F] [Named F] in
/-- A share of a whole buffer serves sixteen readers. -/
theorem share16 {ℓ : Loc nD τ sig} (f : Buf (Elt F) ℓ) :
    iprop(∃ q, ℓ ↦{q} f) ⊢ (bigSep Finset.univ fun _ : Fin 16 => iprop(∃ q, ℓ ↦{q} f) : sProp 𝕄) := by
  iintro ⟨%q, H⟩
  ihave H2 := (Transfers.pointsTo_toks_split (ℓ := ℓ) (S := Finset.univ) (f := f) q 16) $$ H
  icases H2 with ⟨-, H2⟩
  have h1 : ∀ t : Fin 16, (ℓ ↦{Transfers.shareTok q 16 t} f : sProp 𝕄) ⊢ iprop(∃ q, ℓ ↦{q} f) := fun t => by
    iintro H; iexists _; iexact H
  have h2 : (bigSep Finset.univ fun t : Fin 16 => (ℓ ↦{Transfers.shareTok q 16 t} f : sProp 𝕄)) ⊢ bigSep Finset.univ fun _ : Fin 16 => iprop(∃ q, ℓ ↦{q} f) :=
    bigSep_mono fun t _ => h1 t
  iapply h2
  iexact H2

omit [FloatOps F] [Named F] in
/-- The split: a core's operands dealt to its sixteen tiles, their results collected. -/
theorem vecSplit : (K (F := F)).VecSplit' (P tv xp) 0 := by
  intro d c
  show (stT tv xp d c.val : sProp 𝕄) ⊢ |={Set.univ}=> iprop(
      (bigSep Finset.univ fun s : Fin 16 => goT tv xp d c.val s.val)
      ∗ ((bigSep Finset.univ fun s : Fin 16 => tdT tv xp d c.val s.val) -∗ dnT tv xp d c.val))
  unfold stT goT dnT
  rw [bigSep_sep', bigSep_sep', bigSep_sep']
  iintro ⟨Hx, Ht, Hg, Hz⟩
  imodintro
  isplitl [Hx Ht Hg Hz]
  · isplitl [Hx]; · iapply (share16 (xp d)); iexact Hx
    isplitl [Ht]; · iapply (share16 (tv d)); iexact Ht
    isplitl [Hg] <;> iassumption
  iintro H; iexact H

/-! ## The launch's ghost state -/

/-- The tables no window of the TensorCore call prefetches. -/
abbrev adm : (p : Fin 1) → (pcfgs (F := F) p).Adm := fun p => (cfgs p).toPCfg_adm

/-- The ghost state the launch starts from: the handshakes' rounds, the TensorCore pipeline's rounds, no counter. -/
def u₀ : UU := (initOf (K (F := F)).hsCells (K (F := F)).hsToks,
  ((initOf (Pipeline.cells cfgs cellOf_inj) (Pipeline.launchToks cfgs cellOf_inj), 1) : UP × Counters))

/-- What @main is given of the ghost state: the TensorCore pipeline's. -/
def G (d : Dev nD) : sProp 𝕄 :=
  iprop((bigSep Finset.univ fun p => Pipeline.cellsGhost cfgs (EP (F := F)) p d) ∗ (bigSep Finset.univ fun p => Pipeline.toksInit cfgs (EP (F := F)) p d))

omit [FloatOps F] [Named F] in
theorem ownU_split (a : UH) (b : UP × Counters) : (ownU (a, b) : sProp 𝕄) ⊢ iprop(BI.own (EH a) ∗ BI.own ((embR : Emb (UP × Counters) 𝕄) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

omit [FloatOps F] [Named F] in
theorem bigSep_emp' {I : Type} (s : Finset I) : (bigSep s fun _ => iprop(emp)) = (iprop(emp) : sProp 𝕄) := bigSep_emp_const s

omit [FloatOps F] [Named F] in
/-- The launch's ghost state dealt: the handshakes' to the launch, the pipeline's to @main. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P tv xp).x q thr) := by
  unfold u₀
  iintro Hu
  ihave H := (ownU_split _ _) $$ Hu
  icases H with ⟨HH, HK⟩
  ihave HK := (show BI.own ((embR : Emb (UP × Counters) 𝕄) (initOf (Pipeline.cells cfgs cellOf_inj) (Pipeline.launchToks cfgs cellOf_inj), 1))
    ⊢ BI.own ((EP (F := F)) (initOf (Pipeline.cells cfgs cellOf_inj) (Pipeline.launchToks cfgs cellOf_inj))) from Entails.refl _) $$ HK
  imod (Pipeline.fund_ghost cfgs (EP (F := F)) cellOf_inj) $$ HK with ⟨Hg, Ht⟩
  imodintro
  isplitl [HH]; · iexact HH
  isplitl [Hg Ht]
  · unfold G
    rw [bigSep_sep']
    isplitl [Hg] <;> iassumption
  iapply (show (BI.emp : sProp 𝕄) ⊢ bigSep Finset.univ fun _ : Thread nD τ => bigSep Finset.univ fun _ : Fin 1 => iprop(emp) from by
    simp only [bigSep_emp']; exact Entails.refl _)
  iempintro

end Cert.Proof.KI
-- ==== Proof.KI.Region.lean ====
/-
  The TensorCore call as a region of the program: its proof data, its body's obligation at every point, and what it leaves.
-/
module

public import proofs.«01_k».proof.Proof.KI.TcVals
public import proofs.«01_k».proof.Proof.KI.Launch

@[expose] public section

noncomputable section

namespace Cert.Proof.KI

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligationLoose)

variable {F : FTy → Type}

local notation "𝕄" => MT nD τ sig (HIx 1) (Elt F) ℕ UU ℕ

variable [FloatOps F] [Named F]

/-! ## The small windows hold their whole arrays -/

theorem read0 (v : S1024x1.Idx → BitVec 32) (t : Fin grid1.N) (p : S1024x1.Idx) : ((win1_0.blk t).view.read (Elt F) v : S1024x1.Idx → BitVec 32) p = v p := by
  show v ((win1_0.rect t).emb p) = v p
  congr 1; funext a; apply Fin.ext
  rw [Pipeline.Window.rect_emb_val_of_index_zero win1_0 t a (by fin_cases a <;> rfl)]
theorem read1 (v : S1024x1.Idx → F .f32) (t : Fin grid1.N) (p : S1024x1.Idx) : ((win1_1.blk t).view.read (Elt F) v : S1024x1.Idx → F .f32) p = v p := by
  show v ((win1_1.rect t).emb p) = v p
  congr 1; funext a; apply Fin.ext
  rw [Pipeline.Window.rect_emb_val_of_index_zero win1_1 t a (by fin_cases a <;> rfl)]
theorem read2 (v : S1024x1.Idx → F .f32) (t : Fin grid1.N) (p : S1024x1.Idx) : ((win1_2.blk t).view.read (Elt F) v : S1024x1.Idx → F .f32) p = v p := by
  show v ((win1_2.rect t).emb p) = v p
  congr 1; funext a; apply Fin.ext
  rw [Pipeline.Window.rect_emb_val_of_index_zero win1_2 t a (by fin_cases a <;> rfl)]
theorem emb4 (t : Fin grid1.N) (p : S1x1.Idx) : ((win1_4.rect t).emb p : S1x1.Idx) = p := by
  funext a; apply Fin.ext
  rw [Pipeline.Window.rect_emb_val_of_index_zero win1_4 t a (by fin_cases a <;> rfl)]

/-! ## The proof data -/

variable (t2 : Dev nD → S1024x1.Idx → BitVec 32) (g2 x2 : Dev nD → S1024x1.Idx → F .f32) (xv : Dev nD → S1024x100000.Idx → F .f32) (o5 : Dev nD → S1x1.Idx → F .f32)

/-- The result word of the call on a device. -/
def resV (c : Dev nD) : F .f32 := outV (t2 c) (g2 c) (x2 c) (accV (xv c) 48)

/-- The running sums' buffer before point `n`: at the sums of the points before it. -/
def PhiS (c : Dev nD) (n : ℕ) : sProp 𝕄 :=
  iprop(∃ f : S1024x128.Idx → F .f32, ⌜∀ k, n = k + 1 → f = accV (xv c) k⌝ ∗ owns (c.tc : Thread nD τ) (Memref.whole cc1_scratch0) fullShare f)

theorem PhiS_eq (c : Dev nD) (n : ℕ) : PhiS xv c n
    = iprop(∃ f : S1024x128.Idx → F .f32, ⌜∀ k, n = k + 1 → f = accV (xv c) k⌝ ∗ owns (c.tc : Thread nD τ) (Memref.whole cc1_scratch0) fullShare f) := rfl

-- The level the core's recorded waits stay at or below through the call.
variable (bl : ℕ)

/-- The call's proof data on a device. -/
def dats (_ : Fin 1) (c : Dev nD) : Dat τ (Elt F) (HIx 1) ℕ UU ℕ cfg1 c where
  A w := match w with
    | ⟨0, _⟩ => t2 c | ⟨1, _⟩ => g2 c | ⟨2, _⟩ => x2 c | ⟨3, _⟩ => xv c | ⟨4, _⟩ => o5 c
  after w t := match w with
    | ⟨0, _⟩ => t2 c | ⟨1, _⟩ => g2 c | ⟨2, _⟩ => x2 c | ⟨3, _⟩ => xblk (xv c) t.val | ⟨4, _⟩ => fun _ => resV t2 g2 x2 xv c
  Φ t := PhiS xv c t.val
  q _ := fullShare
  owed _ := 0
  recorded _ := {p | (K (F := F)).lev (SparseCore.T c, p.1) p.2 ≤ bl}

local notation "𝔇" => dats t2 g2 x2 xv o5 bl 0

theorem before0 (c : Dev nD) (t : Fin grid1.N) (d : S1024x1.Idx → BitVec 32) : (𝔇 c).before 0 t d = t2 c := by
  rw [Dat.before_in_eq_fetched (𝔇 c) 0 rfl (fun _ => rfl) (fun _ _ _ => rfl) (fun t => funext fun p => (read0 (F := F) (t2 c) t p).symm)]
  funext p
  exact read0 (F := F) (t2 c) t p
theorem before1 (c : Dev nD) (t : Fin grid1.N) (d : S1024x1.Idx → F .f32) : (𝔇 c).before 1 t d = g2 c := by
  rw [Dat.before_in_eq_fetched (𝔇 c) 1 rfl (fun _ => rfl) (fun _ _ _ => rfl) (fun t => funext fun p => (read1 (g2 c) t p).symm)]
  funext p
  exact read1 (g2 c) t p
theorem before2 (c : Dev nD) (t : Fin grid1.N) (d : S1024x1.Idx → F .f32) : (𝔇 c).before 2 t d = x2 c := by
  rw [Dat.before_in_eq_fetched (𝔇 c) 2 rfl (fun _ => rfl) (fun _ _ _ => rfl) (fun t => funext fun p => (read2 (x2 c) t p).symm)]
  funext p
  exact read2 (x2 c) t p
theorem before3 (c : Dev nD) (t : Fin grid1.N) (d : S1024x2048.Idx → F .f32) : (𝔇 c).before 3 t d = (𝔇 c).fetched 3 t d :=
  (𝔇 c).before_fetched 3 t (fetch1_3 t) d
theorem fetched3 (c : Dev nD) (t : Fin grid1.N) (d : S1024x2048.Idx → F .f32) (p : S1024x2048.Idx) (h : 2048 * t.val + (p 1).val < 100000) :
    (𝔇 c).fetched 3 t d p = xblk (xv c) t.val p := fill3 (xv c) t d p h

/-- A point's step takes the running sums to the next ones. -/
theorem step_fetched (c : Dev nD) (t : Fin grid1.N) (d : S1024x2048.Idx → F .f32) (a : S1024x128.Idx → F .f32)
    (ha : ∀ k, t.val = k + 1 → a = accV (xv c) k) : stepV t.val ((𝔇 c).fetched 3 t d) a = accV (xv c) t.val := by
  have ht : t.val < 49 := lt_of_lt_of_eq t.isLt N_1
  rw [stepV_congr (xv c) t.val ht _ a fun p h => fetched3 t2 g2 x2 xv o5 bl c t d p h]
  rcases hk : t.val with _ | k
  · rfl
  · rw [ha k hk]; rfl

/-- The block's buffer, left as found, is loosely the block. -/
theorem left3 (c : Dev nD) (t : Fin grid1.N) (d : S1024x2048.Idx → F .f32) :
    (cfg1.win 3).fill (cfg1.grid.coords t) ((𝔇 c).fetched 3 t d) ((cfg1.win 3).cut (cfg1.grid.coords t) ((𝔇 c).after 3 t)) = (𝔇 c).fetched 3 t d := by
  funext p
  show win1_3.fill (grid1.coords t) ((𝔇 c).fetched 3 t d) (win1_3.cut (grid1.coords t) (xblk (xv c) t.val)) p = _
  unfold Pipeline.Window.fill
  split
  · next h =>
    show xblk (xv c) t.val p = _
    have hm := (win1_3.moved_iff _ p).mp h 1
    have hlt : 2048 * t.val + (p 1).val < 100000 := by
      have h2 : (p 1).val < (Pipeline.Clip.of (cc1_transform_3 (grid1.coords t) 1) 2048 100000).extent 2048 := hm
      rw [index3] at h2
      have h3 : (p 1).val < (Pipeline.Clip.of t.val 2048 100000).extent 2048 := h2
      unfold Pipeline.Clip.of at h3
      split at h3
      · have h4 : (p 1).val < 2048 := h3; omega
      · have h4 : (p 1).val < 100000 - t.val * 2048 := h3; omega
    exact (fetched3 t2 g2 x2 xv o5 bl c t d p hlt).symm
  · rfl

theorem idle4_early (t : Fin grid1.N) (h : t.val < 48) : cfg1.idle 4 (cfg1.grid.coords t) = true := by
  show (!(k1_cond3 (grid1.coords t) == 1#1)) = true
  have : ¬ k1_cond3 (grid1.coords t) = 1#1 := by rw [cond3_iff, coord_val]; omega
  simp [this]
theorem flush4_early (t : Fin grid1.N) (h : t.val < 48) : (cfg1.win 4).flush t = false := by
  rw [Bool.eq_false_iff]; intro hf; have := (flush1_4 t).mp hf; omega
theorem idle4_last (t : Fin grid1.N) (h : t.val = 48) : cfg1.idle 4 (cfg1.grid.coords t) = false := by
  show (!(k1_cond3 (grid1.coords t) == 1#1)) = false
  have : k1_cond3 (grid1.coords t) = 1#1 := by rw [cond3_iff, coord_val]; omega
  simp [this]

theorem leaves4_last (c : Dev nD) (t : Fin grid1.N) (h : t.val = 48) :
    ((𝔇 c).leaves 4 t : sProp 𝕄) = owns (c.tc : Thread nD τ) ((cfg1.win 4).stage (cfg1.slots t 4)) fullShare ((𝔇 c).after 4 t) := by
  unfold Dat.leaves; rw [idle4_last t h]
theorem leaves4_early (c : Dev nD) (t : Fin grid1.N) (h : t.val < 48) :
    ((𝔇 c).leaves 4 t : sProp 𝕄) = iprop(∃ d, owns (c.tc : Thread nD τ) ((cfg1.win 4).stage (cfg1.slots t 4)) fullShare ((𝔇 c).before 4 t d)) :=
  (𝔇 c).leaves_idle 4 t (idle4_early t h) (flush4_early t h)

/-- The body's obligation at a point, the windows one by one. -/
theorem obl (c : Dev nD) (t : Fin grid1.N) :
    iprop(PhiS xv c t.val ∗ (𝔇 c).owesAt none t.castSucc
        ∗ (∃ d, owns (c.tc : Thread nD τ) (st1_0 t) fullShare ((𝔇 c).before 0 t d)) ∗ (∃ d, owns (c.tc : Thread nD τ) (st1_1 t) fullShare ((𝔇 c).before 1 t d))
        ∗ (∃ d, owns (c.tc : Thread nD τ) (st1_2 t) fullShare ((𝔇 c).before 2 t d)) ∗ (∃ d, owns (c.tc : Thread nD τ) (st1_3 t) fullShare ((𝔇 c).before 3 t d))
        ∗ (∃ d, owns (c.tc : Thread nD τ) (st1_4 t) fullShare ((𝔇 c).before 4 t d)))
      ⊢ wp frame (wpE (defs₀ (F := F)) 𝒱₀ c.tc none) Set.univ (bodyAt1 t) fun _ =>
        iprop(PhiS xv c (t.val + 1) ∗ (𝔇 c).owesAt none t.castSucc
          ∗ owns (c.tc : Thread nD τ) (st1_0 t) fullShare (t2 c) ∗ owns (c.tc : Thread nD τ) (st1_1 t) fullShare (g2 c)
          ∗ owns (c.tc : Thread nD τ) (st1_2 t) fullShare (x2 c)
          ∗ (∃ d, owns (c.tc : Thread nD τ) (st1_3 t) fullShare ((cfg1.win 3).fill (cfg1.grid.coords t) d ((cfg1.win 3).cut (cfg1.grid.coords t) ((𝔇 c).after 3 t))))
          ∗ (𝔇 c).leaves 4 t) := by
  have ht : t.val < 49 := lt_of_lt_of_eq t.isLt N_1
  rw [PhiS_eq xv c t.val]
  iintro ⟨⟨%a, %ha, HS⟩, HO, ⟨%d0, H0⟩, ⟨%d1, H1⟩, ⟨%d2, H2⟩, ⟨%d3, H3⟩, ⟨%d4, H4⟩⟩
  rw [before0, before1, before2, before3]
  have hstep := step_fetched t2 g2 x2 xv o5 bl c t d3 a ha
  by_cases h : t.val < 48
  · have hb := body_early c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _)
      (by rw [coord_val]; exact h) ((𝔇 c).fetched 3 t d3) a
    rw [coord_val, hstep] at hb
    iapply (hb _)
    isplitl [H3]; · iexact H3
    isplitl [HS]; · iexact HS
    iintro ⟨H3, HS⟩
    isplitl [HS]
    · rw [PhiS_eq]; iexists (accV (xv c) t.val); isplitr
      · ipureintro; intro k hk; rw [show k = t.val by omega]
      · iexact HS
    isplitl [HO]; · iexact HO
    isplitl [H0]; · iexact H0
    isplitl [H1]; · iexact H1
    isplitl [H2]; · iexact H2
    isplitl [H3]
    · iexists ((𝔇 c).fetched 3 t d3); rw [left3]; iexact H3
    rw [leaves4_early t2 g2 x2 xv o5 bl c t h]
    iexists d4; iexact H4
  · have h48 : t.val = 48 := by omega
    have hb := body_last c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (Memref.whole cc1_scratch0) (Memref.isWhole_whole _)
      (by rw [coord_val]; exact h48) ((𝔇 c).fetched 3 t d3) a (t2 c) (g2 c) (x2 c) ((𝔇 c).before 4 t d4)
    rw [coord_val, hstep] at hb
    iapply (hb _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS]
    · rw [PhiS_eq]; iexists (accV (xv c) t.val); isplitr
      · ipureintro; intro k hk; rw [show k = t.val by omega]
      · iexact HS
    isplitl [HO]; · iexact HO
    isplitl [H0]; · iexact H0
    isplitl [H1]; · iexact H1
    isplitl [H2]; · iexact H2
    isplitl [H3]
    · iexists ((𝔇 c).fetched 3 t d3); rw [left3]; iexact H3
    rw [leaves4_last t2 g2 x2 xv o5 bl c t h48]
    rw [show (𝔇 c).after 4 t = fun _ => outV (t2 c) (g2 c) (x2 c) (accV (xv c) t.val) by rw [h48]; rfl]
    iexact H4

/-- The body's obligation, as the library states it. -/
theorem hbody (c : Dev nD) : BodyObligationLoose (𝔇 c) (defs₀ (F := F)) 𝒱₀ none Set.univ := fun t => by
  rw [bigSep_W1, bigSep_W1]
  exact obl t2 g2 x2 xv o5 bl c t

/-! ## The region -/

/-- The arrays one by one. -/
theorem arrays_eq (c : Dev nD) (A : (w : Fin cfg1.W) → Buf (Elt F) ((cfg1.win w).arr.view.loc (c.tc : Thread nD τ))) :
    ((𝔇 c).arrays A : sProp 𝕄)
      = iprop(((c.tc : Thread nD τ).loc main_v2 ↦{fullShare} A 0) ∗ ((c.tc : Thread nD τ).loc main_v3 ↦{fullShare} A 1) ∗ ((c.tc : Thread nD τ).loc main_v4 ↦{fullShare} A 2)
          ∗ ((c.tc : Thread nD τ).loc main_arg0 ↦{fullShare} A 3) ∗ ((c.tc : Thread nD τ).loc main_v5 ↦{fullShare} A 4)) := by
  unfold Dat.arrays
  simp only [(𝔇 c).share_full fun _ => rfl]
  rw [bigSep_W1]
  simp only [Memref.view_whole, View.set_whole]

theorem last_lt : 48 < grid1.N := by decide

/-- After the run the result's array holds the result word. -/
theorem arrAt4 (c : Dev nD) : (𝔇 c).arrAt 4 cfg1.N = fun _ => resV t2 g2 x2 xv c := by
  refine (𝔇 c).arrAt_eq_of_cover 4 _ (fun t hf => rfl) fun i => ?_
  refine ⟨⟨48, last_lt⟩, (flush1_4 _).mpr rfl, ?_⟩
  show i ∈ ((Memref.whole main_v5).view.slice (win1_4.rect ⟨48, last_lt⟩)).set
  have h : ((Memref.whole main_v5).view.slice (win1_4.rect ⟨48, last_lt⟩)).emb i = i := emb4 ⟨48, last_lt⟩ i
  have h2 := View.emb_mem_set ((Memref.whole main_v5).view.slice (win1_4.rect ⟨48, last_lt⟩)) i
  rw [h] at h2; exact h2

/-- What the region is entered from: its arrays, the core's recorded waits low. -/
def preR (c : Dev nD) : sProp 𝕄 :=
  iprop(((c.tc : Thread nD τ).loc main_v2 ↦{fullShare} t2 c) ∗ ((c.tc : Thread nD τ).loc main_v3 ↦{fullShare} g2 c) ∗ ((c.tc : Thread nD τ).loc main_v4 ↦{fullShare} x2 c)
    ∗ ((c.tc : Thread nD τ).loc main_arg0 ↦{fullShare} xv c) ∗ ((c.tc : Thread nD τ).loc main_v5 ↦{fullShare} o5 c)
    ∗ ∃ W, ⌜(K (F := F)).WBelow (SparseCore.T c) W bl⌝ ∗ owes (c.tc : Thread nD τ) (0 : CellTallies nD τ sig (HIx 1)) W)

/-- The proof data's arrays at the entry. -/
theorem hentry (c : Dev nD) : preR t2 g2 x2 xv o5 bl c
    ⊢ iprop((𝔇 c).arrays ((𝔇 c).arrAt · 0) ∗ (𝔇 c).owesAt none 0) := by
  rw [arrays_eq]
  unfold preR Dat.owesAt Pipeline.owesWithin
  iintro ⟨H2, H3, H4, H0, H5, ⟨%W, %hW, HO⟩⟩
  isplitl [H2 H3 H4 H0 H5]
  · isplitl [H2]; · iexact H2
    isplitl [H3]; · iexact H3
    isplitl [H4]; · iexact H4
    isplitl [H0]; · iexact H0
    iexact H5
  · iexists W; isplitr
    · ipureintro; exact fun p hp => Or.inl (hW p hp)
    · iexact HO

/-- and at the exit. -/
theorem hexit (c : Dev nD) : iprop((𝔇 c).arrays ((𝔇 c).arrAt · cfg1.N) ∗ (𝔇 c).owesAt none (Fin.last cfg1.N))
    ⊢ preR t2 g2 x2 xv (fun c _ => resV t2 g2 x2 xv c) bl c := by
  rw [arrays_eq]
  rw [arrAt4, (𝔇 c).arrAt_in 0 rfl, (𝔇 c).arrAt_in 1 rfl, (𝔇 c).arrAt_in 2 rfl, (𝔇 c).arrAt_in 3 rfl]
  unfold preR Dat.owesAt Pipeline.owesWithin
  iintro ⟨⟨H2, H3, H4, H0, H5⟩, ⟨%W, %hW, HO⟩⟩
  isplitl [H2]; · iexact H2
  isplitl [H3]; · iexact H3
  isplitl [H4]; · iexact H4
  isplitl [H0]; · iexact H0
  isplitl [H5]; · iexact H5
  iexists W; isplitr
  · ipureintro
    intro p hp
    rcases hW hp with h | ⟨w, s, h⟩
    · exact h
    · rw [h]; exact Nat.zero_le _
  · iexact HO

variable (L : GSem nD τ sig → Finset (HIx 1)) (lv : GSem nD τ sig → HIx 1 → ℕ)

set_option backward.isDefEq.respectTransparency.types false in
/-- The call's region. -/
def reg : Pipeline.RegionSeg (pcfgs (F := F)) adm (dats t2 g2 x2 xv o5 bl) none defs₀ 𝒱₀ L lv 0 where
  win := launch1.win.to₀
  block_pos := launch1.block_pos
  stage_whole := launch1.stage_whole
  K := PEmpty
  osem k := k.elim
  ho := Pipeline.OwnSemFacts.none _
  hbody c := hbody t2 g2 x2 xv o5 bl c
  hwaits := Pipeline.hwaits_of_owed_zero _ _ _ _ L lv 0 fun _ _ => rfl
  pre c := preR t2 g2 x2 xv o5 bl c
  post c := preR t2 g2 x2 xv (fun c _ => resV t2 g2 x2 xv c) bl c
  X _ := BI.emp
  Y _ := BI.emp
  Z _ := BI.emp
  hentry c := by
    rw [Pipeline.ownSems0_none]
    iintro ⟨H, -, -⟩
    ihave H := (hentry t2 g2 x2 xv o5 bl c) $$ H
    icases H with ⟨Ha, HO⟩
    imodintro
    isplitl [Ha]; · iexact Ha
    isplitr; · unfold Pipeline.prefHeld; rw [show (Finset.univ : Finset (Fin 0)) = ∅ from rfl, BI.bigSep_empty]; iempintro
    isplitl [HO]; · iexact HO
    isplitl <;> iempintro
  hin c := by
    show iprop(BI.emp ∗ _ ∗ _) ⊢ PhiS xv c 0
    rw [scopedRest1_eq, PhiS_eq]
    iintro ⟨-, -, ⟨%f, H⟩⟩
    iexists f; isplitr
    · ipureintro; intro k hk; omega
    · rw [owns_whole]; iexact H
  hout c := by
    rw [Pipeline.ownSems0_none]
    show PhiS xv c _ ⊢ _
    rw [scopedRest1_eq, PhiS_eq]
    simp only [owns_whole]
    iintro ⟨%f, -, H⟩
    isplitr; · iempintro
    isplitr; · iempintro
    iexists f; iexact H
  hexit c := by
    iintro ⟨Ha, HO, -, -⟩
    imodintro
    iapply (hexit t2 g2 x2 xv o5 bl c)
    isplitl [Ha]; · iexact Ha
    iexact HO

variable [∀ e, Nonempty (Elt F e)]

/-- The call, run: from the boundary, its arrays, the level facts and its ghost state, to the same with the result word written. -/
theorem wp_region (c : Dev nD) {α : Type} (k : PUnit → Prog (TpuEff nD τ sig (Elt F) (ΛP (F := F)) .tc) α) (Q : α → sProp 𝕄) :
    iprop(((boundary (c.tc : Thread nD τ) ∗ preR t2 g2 x2 xv (fun c _ => resV t2 g2 x2 xv c) bl c) -∗ wp frame (wpE (D (F := F)) 𝒱P c.tc none) Set.univ (k ⟨⟩) Q)
        ∗ boundary (c.tc : Thread nD τ) ∗ preR t2 g2 x2 xv o5 bl c ∗ levAts L lv
        ∗ Pipeline.cellsGhost cfgs (EP (F := F)) 0 c ∗ Pipeline.toksInit cfgs (EP (F := F)) 0 c)
      ⊢ wp frame (wpE (D (F := F)) 𝒱P c.tc none) Set.univ (.op (.customCall (Pipeline.entry 0) ()) k) Q :=
  Pipeline.RegionSeg.wp (pcfgs (F := F)) adm (dats t2 g2 x2 xv o5 bl) none cellOf_inj (EP (F := F)) defs₀ 𝒱₀ L lv (reg t2 g2 x2 xv o5 bl L lv) c none (fun _ h => nomatch h) k Q

end Cert.Proof.KI

end
-- ==== Proof.KI.Ops.lean ====
/-
  What @main's parts need besides its two calls: a host operation run from the buffers it touches, the rows of the results cut and rejoined.
-/
module

public import proofs.«01_k».proof.Proof.KI.Region
public import Idealize.ShloMosaic.Lib.StableHlo.Run

@[expose] public section

noncomputable section

namespace Cert.Proof.KI

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-! ## Host operations -/

/-- A host operation writing `B` alone and reading nothing. -/
theorem wp_op1 (V₀ : Valuation τ sig (Elt F)) (d : Dev nD) {hp : (Proc.tc : Proc τ).kind.runsHlo = true} (op : HloOp τ sig (Elt F)) (B : Ref sig .tc)
    (hb : op.bufs = {Proc.devRef .tc B}) (hw : op.writes = {Proc.devRef .tc B}) (hf : op.fresh = ∅)
    (fb v : Buf (Elt F) ((SparseCore.T (τ := τ) d).loc B)) (hv : ∀ V : Valuation τ sig (Elt F), op.result V (Proc.devRef .tc B) = v) (Q : PUnit → sProp 𝕄) :
    iprop(((boundary (SparseCore.T d) ∗ ((SparseCore.T (τ := τ) d).loc B ↦{fullShare} v)) -∗ Q ⟨⟩)
        ∗ boundary (SparseCore.T d) ∗ ((SparseCore.T (τ := τ) d).loc B ↦{fullShare} fb))
      ⊢ wp frame (wpE ((K (F := F)).defs (D (F := F))) 𝒱P (SparseCore.T d) none) Set.univ (hlo hp op fun _ => .ret ⟨⟩) Q := by
  classical
  obtain ⟨V, hB⟩ : ∃ V : Valuation τ sig (Elt F), V (Proc.devRef .tc B) = fb := ⟨Function.update V₀ _ fb, Function.update_self ..⟩
  subst hB
  have h := wp_hlo (defs := (K (F := F)).defs (D (F := F))) 𝒱P (SparseCore.T d) none Set.univ (Γ := .empty) (hp := hp) (op := op) (k := fun _ => .ret PUnit.unit) (Q := Q)
    (q := fun _ => fullShare) (F := V) (fun _ _ => rfl) hf
  rw [hb, bigSep_singleton, bigSep_singleton, hv V, wp_ret] at h
  iintro ⟨Hk, Hb, HB⟩
  iapply h $$ [Hb HB]
  · isplitl [Hb]; · iexact Hb
    iexact HB
  iintro H
  imodintro
  iapply Hk; iexact H

/-- A host operation writing `B` from `A`. -/
theorem wp_op2 (V₀ : Valuation τ sig (Elt F)) (d : Dev nD) {hp : (Proc.tc : Proc τ).kind.runsHlo = true} (op : HloOp τ sig (Elt F)) (A B : Ref sig .tc)
    (hAB : (Proc.devRef .tc A : DevRef τ sig) ≠ Proc.devRef .tc B)
    (hb : op.bufs = {Proc.devRef .tc A, Proc.devRef .tc B}) (hw : op.writes = {Proc.devRef .tc B}) (hf : op.fresh = ∅) (qa : PosShare TreeShare)
    (fa : Buf (Elt F) ((SparseCore.T (τ := τ) d).loc A)) (fb v : Buf (Elt F) ((SparseCore.T (τ := τ) d).loc B))
    (hv : ∀ V : Valuation τ sig (Elt F), V (Proc.devRef .tc A) = fa → op.result V (Proc.devRef .tc B) = v) (Q : PUnit → sProp 𝕄) :
    iprop(((boundary (SparseCore.T d) ∗ ((SparseCore.T (τ := τ) d).loc A ↦{qa} fa) ∗ ((SparseCore.T (τ := τ) d).loc B ↦{fullShare} v)) -∗ Q ⟨⟩)
        ∗ boundary (SparseCore.T d) ∗ ((SparseCore.T (τ := τ) d).loc A ↦{qa} fa) ∗ ((SparseCore.T (τ := τ) d).loc B ↦{fullShare} fb))
      ⊢ wp frame (wpE ((K (F := F)).defs (D (F := F))) 𝒱P (SparseCore.T d) none) Set.univ (hlo hp op fun _ => .ret ⟨⟩) Q := by
  classical
  obtain ⟨V, hA, hB⟩ : ∃ V : Valuation τ sig (Elt F), V (Proc.devRef .tc A) = fa ∧ V (Proc.devRef .tc B) = fb :=
    ⟨Function.update (Function.update V₀ _ fb) _ fa, Function.update_self .., by rw [Function.update_of_ne hAB.symm, Function.update_self]⟩
  obtain ⟨q, hqA, hqB⟩ : ∃ q : DevRef τ sig → PosShare TreeShare, q (Proc.devRef .tc A) = qa ∧ q (Proc.devRef .tc B) = fullShare :=
    ⟨Function.update (fun _ => fullShare) (Proc.devRef .tc A) qa, Function.update_self .., by rw [Function.update_of_ne hAB.symm]⟩
  have hr := hv V hA
  have hrA : op.result V (Proc.devRef .tc A) = V (Proc.devRef .tc A) :=
    HloOp.result_of_not_mem _ _ (by rw [hw, Finset.mem_singleton]; exact hAB)
  subst hA hB
  have h := wp_hlo (defs := (K (F := F)).defs (D (F := F))) 𝒱P (SparseCore.T d) none Set.univ (Γ := .empty) (hp := hp) (op := op) (k := fun _ => .ret PUnit.unit) (Q := Q)
    (q := q) (F := V) (fun b hb => by rw [hw, Finset.mem_singleton] at hb; rw [hb, hqB]) hf
  rw [hb, SparseCore.bigSep_insert' (by rw [Finset.mem_singleton]; exact hAB), SparseCore.bigSep_insert' (by rw [Finset.mem_singleton]; exact hAB),
    bigSep_singleton, bigSep_singleton, hr, hrA, hqA, hqB, wp_ret] at h
  iintro ⟨Hk, Hb, HA, HB⟩
  iapply h $$ [Hb HA HB]
  · isplitl [Hb]; · iexact Hb
    isplitl [HA]; · iexact HA
    iexact HB
  iintro H
  imodintro
  iapply Hk; iexact H

/-- A host operation writing `B` from `A` and `C`. -/
theorem wp_op3 (V₀ : Valuation τ sig (Elt F)) (d : Dev nD) {hp : (Proc.tc : Proc τ).kind.runsHlo = true} (op : HloOp τ sig (Elt F)) (A C B : Ref sig .tc)
    (hAC : (Proc.devRef .tc A : DevRef τ sig) ≠ Proc.devRef .tc C) (hAB : (Proc.devRef .tc A : DevRef τ sig) ≠ Proc.devRef .tc B)
    (hCB : (Proc.devRef .tc C : DevRef τ sig) ≠ Proc.devRef .tc B)
    (hb : op.bufs = {Proc.devRef .tc A, Proc.devRef .tc C, Proc.devRef .tc B}) (hw : op.writes = {Proc.devRef .tc B}) (hf : op.fresh = ∅)
    (fa : Buf (Elt F) ((SparseCore.T (τ := τ) d).loc A)) (fc : Buf (Elt F) ((SparseCore.T (τ := τ) d).loc C)) (fb v : Buf (Elt F) ((SparseCore.T (τ := τ) d).loc B))
    (hv : ∀ V : Valuation τ sig (Elt F), V (Proc.devRef .tc A) = fa → V (Proc.devRef .tc C) = fc → op.result V (Proc.devRef .tc B) = v) (Q : PUnit → sProp 𝕄) :
    iprop(((boundary (SparseCore.T d) ∗ ((SparseCore.T (τ := τ) d).loc A ↦{fullShare} fa) ∗ ((SparseCore.T (τ := τ) d).loc B ↦{fullShare} v)) -∗ Q ⟨⟩)
        ∗ boundary (SparseCore.T d) ∗ ((SparseCore.T (τ := τ) d).loc A ↦{fullShare} fa) ∗ ((SparseCore.T (τ := τ) d).loc C ↦{fullShare} fc) ∗ ((SparseCore.T (τ := τ) d).loc B ↦{fullShare} fb))
      ⊢ wp frame (wpE ((K (F := F)).defs (D (F := F))) 𝒱P (SparseCore.T d) none) Set.univ (hlo hp op fun _ => .ret ⟨⟩) Q := by
  classical
  obtain ⟨V, hA, hC, hB⟩ : ∃ V : Valuation τ sig (Elt F), V (Proc.devRef .tc A) = fa ∧ V (Proc.devRef .tc C) = fc ∧ V (Proc.devRef .tc B) = fb :=
    ⟨Function.update (Function.update (Function.update V₀ _ fb) _ fc) _ fa, Function.update_self ..,
      by rw [Function.update_of_ne hAC.symm, Function.update_self], by rw [Function.update_of_ne hAB.symm, Function.update_of_ne hCB.symm, Function.update_self]⟩
  have hr := hv V hA hC
  have hrA : op.result V (Proc.devRef .tc A) = V (Proc.devRef .tc A) :=
    HloOp.result_of_not_mem _ _ (by rw [hw, Finset.mem_singleton]; exact hAB)
  subst hA hC hB
  have h := wp_hlo (defs := (K (F := F)).defs (D (F := F))) 𝒱P (SparseCore.T d) none Set.univ (Γ := .empty) (hp := hp) (op := op) (k := fun _ => .ret PUnit.unit) (Q := Q)
    (q := fun _ => fullShare) (F := V) (fun _ _ => rfl) hf
  have n1 : (Proc.devRef .tc A : DevRef τ sig) ∉ ({Proc.devRef .tc C, Proc.devRef .tc B} : Finset (DevRef τ sig)) := by
    simp only [Finset.mem_insert, Finset.mem_singleton, not_or]; exact ⟨hAC, hAB⟩
  have n2 : (Proc.devRef .tc C : DevRef τ sig) ∉ ({Proc.devRef .tc B} : Finset (DevRef τ sig)) := by
    simp only [Finset.mem_singleton]; exact hCB
  rw [hb, SparseCore.bigSep_insert' n1, SparseCore.bigSep_insert' n2, SparseCore.bigSep_insert' n1, SparseCore.bigSep_insert' n2,
    bigSep_singleton, bigSep_singleton, hr, hrA, wp_ret] at h
  iintro ⟨Hk, Hb, HA, HC, HB⟩
  iapply h $$ [Hb HA HC HB]
  · isplitl [Hb]; · iexact Hb
    isplitl [HA]; · iexact HA
    isplitl [HC]; · iexact HC
    iexact HB
  iintro ⟨Hb, HA, -, HB⟩
  imodintro
  iapply Hk
  isplitl [Hb]; · iexact Hb
  isplitl [HA]; · iexact HA
  iexact HB

/-! ## The rows of the results, tile by tile -/

omit [FloatOps F] [Named F] in
/-- Two tiles' rows do not meet. -/
theorem rowsT_disjoint (p p' : Fin 2 × Fin 16) (h : p ≠ p') : Disjoint (rowsT p.1.val p.2.val) (rowsT p'.1.val p'.2.val) := by
  rw [Finset.disjoint_left]
  intro x hx hx'
  unfold rowsT rowF at hx hx'
  simp only [Finset.mem_filter, Finset.mem_univ, true_and] at hx hx'
  apply h
  have h1 := p.1.isLt; have h2 := p'.1.isLt
  refine Prod.ext (Fin.ext ?_) (Fin.ext ?_) <;> omega

omit [FloatOps F] [Named F] in
/-- The tiles' rows are all rows. -/
theorem rowsT_cover : (Finset.univ : Finset (Fin 2 × Fin 16)).biUnion (fun p => rowsT p.1.val p.2.val) = Finset.univ := by
  ext x
  simp only [Finset.mem_biUnion, Finset.mem_univ, true_and, iff_true]
  have hx : (x 0).val < 1024 := (x 0).isLt
  refine ⟨(⟨(x 0).val / 32 % 2, by omega⟩, ⟨(x 0).val / 64, by omega⟩), ?_⟩
  unfold rowsT rowF
  simp only [Finset.mem_filter, Finset.mem_univ, true_and]
  omega

omit [FloatOps F] [Named F] in
/-- A whole first result is its tiles' rows. -/
theorem gRows (d : Dev nD) (f : Buf (Elt F) (gLoc d)) :
    (gLoc d ↦{fullShare} f : sProp 𝕄) = bigSep Finset.univ fun c : Fin 2 => bigSep Finset.univ fun s : Fin 16 => (gLoc d ↦[rowsT c.val s.val]{fullShare} f) := by
  have h := pointsTo_biUnion (Ix := HIx 1) (Name := ℕ) (U := UU) (Lvl := ℕ) (ℓ := gLoc d) (q := fullShare) (f := f) (Finset.univ : Finset (Fin 2 × Fin 16)) (fun p => rowsT p.1.val p.2.val)
    (fun p _ p' _ hp => rowsT_disjoint p p' hp)
  rw [bigSep_univ_prod] at h
  rw [← h]
  exact congrArg (fun S => (gLoc d ↦[S]{fullShare} f : sProp 𝕄)) rowsT_cover.symm

omit [FloatOps F] [Named F] in
/-- A whole second result is its tiles' rows. -/
theorem zRows (d : Dev nD) (f : Buf (Elt F) (x0Loc d)) :
    (x0Loc d ↦{fullShare} f : sProp 𝕄) = bigSep Finset.univ fun c : Fin 2 => bigSep Finset.univ fun s : Fin 16 => (x0Loc d ↦[rowsT c.val s.val]{fullShare} f) := by
  have h := pointsTo_biUnion (Ix := HIx 1) (Name := ℕ) (U := UU) (Lvl := ℕ) (ℓ := x0Loc d) (q := fullShare) (f := f) (Finset.univ : Finset (Fin 2 × Fin 16)) (fun p => rowsT p.1.val p.2.val)
    (fun p _ p' _ hp => rowsT_disjoint p p' hp)
  rw [bigSep_univ_prod] at h
  rw [← h]
  exact congrArg (fun S => (x0Loc d ↦[S]{fullShare} f : sProp 𝕄)) rowsT_cover.symm

variable (tv : Dev nD → S1024.Idx → BitVec 32) (xp : Dev nD → S1024x100096.Idx → F .f32)

omit [FloatOps F] [Named F] in
/-- A full share of a whole buffer serves two readers, a share kept. -/
theorem share2 {ℓ : Loc nD τ sig} (f : Buf (Elt F) ℓ) :
    (ℓ ↦{fullShare} f : sProp 𝕄) ⊢ iprop((ℓ ↦{Transfers.shareDrop fullShare 2} f) ∗ bigSep Finset.univ fun _ : Fin 2 => iprop(∃ q, ℓ ↦{q} f)) := by
  iintro H
  ihave H2 := (Transfers.pointsTo_toks_split (ℓ := ℓ) (S := Finset.univ) (f := f) fullShare 2) $$ H
  icases H2 with ⟨Hd, H2⟩
  have h1 : ∀ t : Fin 2, (ℓ ↦{Transfers.shareTok fullShare 2 t} f : sProp 𝕄) ⊢ iprop(∃ q, ℓ ↦{q} f) := fun t => by
    iintro H; iexists _; iexact H
  have h2 : (bigSep Finset.univ fun t : Fin 2 => (ℓ ↦{Transfers.shareTok fullShare 2 t} f : sProp 𝕄)) ⊢ bigSep Finset.univ fun _ : Fin 2 => iprop(∃ q, ℓ ↦{q} f) :=
    bigSep_mono fun t _ => h1 t
  isplitl [Hd]; · iexact Hd
  iapply h2
  iexact H2

/-- What the call is given, from the whole arrays; a share of the targets kept. -/
theorem st_intro (d : Dev nD) (fg : Buf (Elt F) (gLoc d)) (fz : Buf (Elt F) (x0Loc d)) :
    iprop((xLoc d ↦{fullShare} xp d) ∗ (tLoc d ↦{fullShare} tv d) ∗ (gLoc d ↦{fullShare} fg) ∗ (x0Loc d ↦{fullShare} fz))
      ⊢ (iprop((tLoc d ↦{Transfers.shareDrop fullShare 2} tv d) ∗ bigSep Finset.univ fun c : Fin ((K (F := F)).nCore 0) => (P tv xp).st 0 d c) : sProp 𝕄) := by
  show _ ⊢ (iprop((tLoc d ↦{Transfers.shareDrop fullShare 2} tv d) ∗ bigSep Finset.univ fun c : Fin 2 => stT tv xp d c.val) : sProp 𝕄)
  unfold stT
  rw [bigSep_sep', bigSep_sep', bigSep_sep', gRows d fg, zRows d fz]
  have hg : (bigSep Finset.univ fun c : Fin 2 => bigSep Finset.univ fun s : Fin 16 => (gLoc d ↦[rowsT c.val s.val]{fullShare} fg : sProp 𝕄))
      ⊢ bigSep Finset.univ fun c : Fin 2 => bigSep Finset.univ fun s : Fin 16 => iprop(∃ f, gLoc d ↦[rowsT c.val s.val]{fullShare} f) :=
    bigSep_mono fun c _ => bigSep_mono fun s _ => (show (gLoc d ↦[rowsT c.val s.val]{fullShare} fg : sProp 𝕄) ⊢ iprop(∃ f, gLoc d ↦[rowsT c.val s.val]{fullShare} f) by
      iintro H; iexists _; iexact H)
  have hz : (bigSep Finset.univ fun c : Fin 2 => bigSep Finset.univ fun s : Fin 16 => (x0Loc d ↦[rowsT c.val s.val]{fullShare} fz : sProp 𝕄))
      ⊢ bigSep Finset.univ fun c : Fin 2 => bigSep Finset.univ fun s : Fin 16 => iprop(∃ f, x0Loc d ↦[rowsT c.val s.val]{fullShare} f) :=
    bigSep_mono fun c _ => bigSep_mono fun s _ => (show (x0Loc d ↦[rowsT c.val s.val]{fullShare} fz : sProp 𝕄) ⊢ iprop(∃ f, x0Loc d ↦[rowsT c.val s.val]{fullShare} f) by
      iintro H; iexists _; iexact H)
  iintro ⟨Hx, Ht, Hg, Hz⟩
  ihave Hx := (share2 (xp d)) $$ Hx
  icases Hx with ⟨-, Hx⟩
  ihave Ht := (share2 (tv d)) $$ Ht
  icases Ht with ⟨Hk, Ht⟩
  isplitl [Hk]; · iexact Hk
  isplitl [Hx]; · iexact Hx
  isplitl [Ht]; · iexact Ht
  isplitl [Hg]
  · iapply hg; iexact Hg
  iapply hz; iexact Hz

/-- What the call gives back is the two results, whole. -/
theorem dn_elim (d : Dev nD) :
    (bigSep Finset.univ fun c : Fin ((K (F := F)).nCore 0) => (P tv xp).dn 0 d c)
      ⊢ (iprop((gLoc d ↦{fullShare} gV (tv d) (xp d)) ∗ (x0Loc d ↦{fullShare} x0full (xp d))) : sProp 𝕄) := by
  show (bigSep Finset.univ fun c : Fin 2 => dnT tv xp d c.val) ⊢ _
  rw [gRows d (gV (tv d) (xp d)), zRows d (x0full (xp d))]
  unfold dnT tdT
  simp only [bigSep_sep']
  exact Entails.refl _

end Cert.Proof.KI
-- ==== Proof.KI.Main.lean ====
/-
  @main on the TensorCore: the padding, the SparseCore call, the three reshapes, the TensorCore call, the last reshape; and the program's run, with the value it leaves.
-/
module

public import proofs.«01_k».proof.Proof.KI.Ops
public import Idealize.ShloMosaic.Lib.SparseCore.Quiescent

@[expose] public section

noncomputable section

namespace Cert.Proof.KI

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

variable (m : (ℓ : Loc nD τ sig) → Buf (Elt F) ℓ) (ρ : Dev nD → PrngReg)

/-! ## The values -/

/-- `x` with 96 columns of zero appended. -/
def padV (x : S1024x100000.Idx → F .f32) : S1024x100096.Idx → F .f32 :=
  pad S1024x100096 ![0, 0] ![0, 96] ![0, 0] x (sitofp .f32 (constantI S_ 32 0#32)) pads_S1024x100000_S1024x100096_000_0960 h_S_
/-- The targets a device starts with. -/
def tvM (d : Dev nD) : S1024.Idx → BitVec 32 := m (tLoc d)
/-- The padded `x` of a device. -/
def xpM (d : Dev nD) : S1024x100096.Idx → F .f32 := padV (m (xaLoc d))
/-- The targets as a column. -/
def t2M (d : Dev nD) : S1024x1.Idx → BitVec 32 := shapeCast S1024x1 (tvM m d) shapeCasts_S1024_S1024x1
/-- The gathered entries as a column. -/
def g2M (d : Dev nD) : S1024x1.Idx → F .f32 := shapeCast S1024x1 (gV (tvM m d) (xpM m d)) shapeCasts_S1024_S1024x1
/-- The first column of `x`. -/
def x2M (d : Dev nD) : S1024x1.Idx → F .f32 := shapeCast S1024x1 (x0full (xpM m d)) shapeCasts_S1024_S1024x1
/-- The word the program leaves. -/
def outM (d : Dev nD) : F .f32 := resV (t2M m) (g2M m) (x2M m) (fun d => m (xaLoc d)) d

abbrev oLoc (d : Dev nD) : Loc nD τ sig := (SparseCore.T d).loc main_v6

/-! ## The TensorCore call in @main's signature -/

section Call

variable (t2 : Dev nD → S1024x1.Idx → BitVec 32) (g2 x2 : Dev nD → S1024x1.Idx → F .f32) (xv : Dev nD → S1024x100000.Idx → F .f32) (o5 : Dev nD → S1x1.Idx → F .f32) (bl : ℕ)

/-- The call in @main's signature is the certificate's own, lifted. -/
theorem prog_call : (SparseCore.liftProg (Q := 1) (.op (.customCall (Pipeline.entry 0) ()) fun _ => .ret PUnit.unit :
      Prog (TpuEff nD τ sig (Elt F) (ΛP (F := F)) .tc) PUnit))
    = Prog.lift (.customCall (SparseCore.inner (Pipeline.entry 0)) ()) := rfl

omit [FloatOps F] [Named F] in
/-- The one TensorCore call's ghost state. -/
theorem G_eq (d : Dev nD) : (G d : sProp 𝕄) = iprop(Pipeline.cellsGhost cfgs (EP (F := F)) 0 d ∗ Pipeline.toksInit cfgs (EP (F := F)) 0 d) := by
  unfold G
  exact congrArg₂ (fun A B : sProp 𝕄 => iprop(A ∗ B)) (bigSep_univ_of_subsingleton (0 : Fin 1)) (bigSep_univ_of_subsingleton (0 : Fin 1))

/-- The call in @main's signature, run. -/
theorem wp_call [∀ e, Nonempty (Elt F e)] (d : Dev nD) (Q : PUnit → sProp 𝕄) :
    iprop(((boundary (SparseCore.T d) ∗ preR t2 g2 x2 xv (fun c _ => resV t2 g2 x2 xv c) bl d) -∗ Q ⟨⟩)
        ∗ boundary (SparseCore.T d) ∗ preR t2 g2 x2 xv o5 bl d ∗ levAts (K (F := F)).L (K (F := F)).lev ∗ G d)
      ⊢ wp frame (wpE ((K (F := F)).defs (D (F := F))) 𝒱P (SparseCore.T d) none) Set.univ
          (Prog.lift (.customCall (SparseCore.inner (Pipeline.entry 0)) ())) Q := by
  have h := wp_region t2 g2 x2 xv o5 bl (K (F := F)).L (K (F := F)).lev d (fun _ => .ret PUnit.unit) Q
  rw [wp_ret] at h
  rw [← prog_call]
  have h2 := (K (F := F)).wp_liftProg (Name := ℕ) (U := UU) (N := 1) (D (F := F)) 𝒱P (SparseCore.T d) Set.univ none
    (.op (.customCall (Pipeline.entry 0) ()) fun _ => .ret PUnit.unit) Q
  refine BI.Entails.trans ?_ h2
  refine BI.Entails.trans ?_ h
  show (iprop(_ ∗ _ ∗ _ ∗ _ ∗ _) : sProp 𝕄) ⊢ iprop((_ -∗ _) ∗ _ ∗ _ ∗ _ ∗ _ ∗ _)
  iintro ⟨Hk, Hb, Hp, HL, HG⟩
  ihave HG := (Entails.of_eq (G_eq d)) $$ HG
  icases HG with ⟨Hg, Ht⟩
  isplitl [Hk]
  · iintro H
    imodintro
    iapply Hk
    iexact H
  isplitl [Hb]; · iexact Hb
  isplitl [Hp]; · iexact Hp
  isplitl [HL]; · iexact HL
  isplitl [Hg] <;> iassumption

end Call

/-! ## @main -/

omit [FloatOps F] [Named F] in
theorem unscopedBufs_eq (d : Dev nD) (W : (b : Ref sig .tc) → Buf (Elt F) ((d.tc : Thread nD τ).loc b)) :
    (unscopedBufs d W : sProp 𝕄) = iprop((xaLoc d ↦{fullShare} W main_arg0) ∗ (tLoc d ↦{fullShare} W main_arg1)
      ∗ ((SparseCore.T (τ := τ) d).loc main_c ↦{fullShare} W main_c) ∗ ((SparseCore.T (τ := τ) d).loc main_call0_v0 ↦{fullShare} W main_call0_v0)
      ∗ (xLoc d ↦{fullShare} W main_v0) ∗ (gLoc d ↦{fullShare} W main_v1_0) ∗ (x0Loc d ↦{fullShare} W main_v1_1)
      ∗ ((SparseCore.T (τ := τ) d).loc main_v2 ↦{fullShare} W main_v2) ∗ ((SparseCore.T (τ := τ) d).loc main_v3 ↦{fullShare} W main_v3)
      ∗ ((SparseCore.T (τ := τ) d).loc main_v4 ↦{fullShare} W main_v4) ∗ ((SparseCore.T (τ := τ) d).loc main_v5 ↦{fullShare} W main_v5)
      ∗ (oLoc d ↦{fullShare} W main_v6)) := by
  unfold unscopedBufs
  rw [show (Finset.univ.filter fun b : Ref sig .tc => ¬ b.isScoped)
      = {main_arg0, main_arg1, main_c, main_call0_v0, main_v0, main_v1_0, main_v1_1, main_v2, main_v3, main_v4, main_v5, main_v6} by decide]
  repeat rw [SparseCore.bigSep_insert' (by decide)]
  rw [bigSep_singleton]

theorem Otc_one (d : Dev nD) : (K (F := F)).Otc d 1 = (0 : CellTallies nD τ sig (HIx 1)) := by
  unfold SparseCore.Cfg.Otc
  exact Finset.sum_eq_zero fun q _ => by
    have : ¬ 1 ≤ q.val := by omega
    rw [if_neg this]

/-- After the call the TensorCore owes nothing. -/
theorem tcSt_one (d : Dev nD) : ∃ (bl : ℕ) (R : sProp 𝕄), ((K (F := F)).tcSt EH d 1 : sProp 𝕄)
    = iprop((∃ W, ⌜(K (F := F)).WBelow (SparseCore.T d) W bl⌝ ∗ owes (SparseCore.T d) (0 : CellTallies nD τ sig (HIx 1)) W) ∗ R) := by
  unfold SparseCore.Cfg.tcSt
  rw [Otc_one]
  exact ⟨_, _, rfl⟩

/-- What @main ends with: `x` and the targets as they were, the result. -/
def FIN (d : Dev nD) : sProp 𝕄 :=
  iprop((xaLoc d ↦{fullShare} m (xaLoc d)) ∗ (∃ q, tLoc d ↦{q} m (tLoc d)) ∗ (oLoc d ↦{fullShare} fun _ => outM m d))

/-! ### What each host operation leaves -/

/-- The bound the call's handshake leaves on what the TensorCore has waited on; the region's `o5` at the launch. -/
abbrev o5M (d : Dev nD) : S1x1.Idx → F .f32 := m ((SparseCore.T d).loc main_v5)

theorem val_c (V : Valuation τ sig (Elt F)) :
    (StableHlo.nullary (τ := τ) (Val := Elt F) main_c (constantI S_ 32 0#32)).result V (Proc.devRef .tc main_c) = (constantI S_ 32 0#32 : S_.Idx → BitVec 32) :=
  StableHlo.nullary_result ..
theorem val_z (V : Valuation τ sig (Elt F)) (h : V (Proc.devRef .tc main_c) = (constantI S_ 32 0#32 : S_.Idx → BitVec 32)) :
    (StableHlo.TRef.unary (τ := τ) (Val := Elt F) (.of main_c : StableHlo.TRef sig ⟨S_, .i32⟩) main_call0.v0 (sitofp .f32)).result V (Proc.devRef .tc main_call0_v0)
      = (sitofp .f32 (constantI S_ 32 0#32) : S_.Idx → F .f32) := by
  refine (StableHlo.unary_result ..).trans ?_
  rw [h]; rfl
theorem val_p (x : S1024x100000.Idx → F .f32) (V : Valuation τ sig (Elt F)) (h : V (Proc.devRef .tc main_arg0) = x)
    (h' : V (Proc.devRef .tc main_call0_v0) = (sitofp .f32 (constantI S_ 32 0#32) : S_.Idx → F .f32)) :
    (StableHlo.TRef.binary (τ := τ) (Val := Elt F) (.of main_arg0 : StableHlo.TRef sig ⟨S1024x100000, .f32⟩) main_call0.v0 main_call0.v1
      (fun x v => pad S1024x100096 ![0, 0] ![0, 96] ![0, 0] x v pads_S1024x100000_S1024x100096_000_0960 h_S_)).result V (Proc.devRef .tc main_v0)
      = padV x := by
  refine (StableHlo.binary_result ..).trans ?_
  rw [h, h']; rfl
theorem val_2 (t : S1024.Idx → BitVec 32) (V : Valuation τ sig (Elt F)) (h : V (Proc.devRef .tc main_arg1) = t) :
    (StableHlo.reshape (τ := τ) (Val := Elt F) main_arg1 main_v2 (rfl : (.i32 : EltTy) = .i32) shapeCasts_S1024_S1024x1).result V (Proc.devRef .tc main_v2)
      = (shapeCast S1024x1 t shapeCasts_S1024_S1024x1 : S1024x1.Idx → BitVec 32) := by
  refine (StableHlo.reshape_result ..).trans ?_
  rw [h]; rfl
theorem val_3 (t : S1024.Idx → F .f32) (V : Valuation τ sig (Elt F)) (h : V (Proc.devRef .tc main_v1_0) = t) :
    (StableHlo.reshape (τ := τ) (Val := Elt F) main_v1_0 main_v3 (rfl : (.f32 : EltTy) = .f32) shapeCasts_S1024_S1024x1).result V (Proc.devRef .tc main_v3)
      = (shapeCast S1024x1 t shapeCasts_S1024_S1024x1 : S1024x1.Idx → F .f32) := by
  refine (StableHlo.reshape_result ..).trans ?_
  rw [h]; rfl
theorem val_4 (t : S1024.Idx → F .f32) (V : Valuation τ sig (Elt F)) (h : V (Proc.devRef .tc main_v1_1) = t) :
    (StableHlo.reshape (τ := τ) (Val := Elt F) main_v1_1 main_v4 (rfl : (.f32 : EltTy) = .f32) shapeCasts_S1024_S1024x1).result V (Proc.devRef .tc main_v4)
      = (shapeCast S1024x1 t shapeCasts_S1024_S1024x1 : S1024x1.Idx → F .f32) := by
  refine (StableHlo.reshape_result ..).trans ?_
  rw [h]; rfl
theorem val_6 (r : F .f32) (V : Valuation τ sig (Elt F)) (h : V (Proc.devRef .tc main_v5) = (fun _ => r : S1x1.Idx → F .f32)) :
    (StableHlo.reshape (τ := τ) (Val := Elt F) main_v5 main_v6 (rfl : (.f32 : EltTy) = .f32) shapeCasts_S1x1_S_).result V (Proc.devRef .tc main_v6)
      = (fun _ => r : S_.Idx → F .f32) := by
  refine (StableHlo.reshape_result ..).trans ?_
  rw [h]; rfl

/-- @main on device `d`'s TensorCore, from the launch's holdings to the result. -/
theorem hmain [∀ e, Nonempty (Elt F e)] (κ : GSem nD τ sig → ℕ) (d : Dev nD) :
    iprop((K (F := F)).ctx EH (P (tvM m) (xpM m)) κ ∗ (K (F := F)).tcSt EH d 0 ∗ (K (F := F)).tcRes m ρ d ∗ G d)
      ⊢ wp frame (wpE ((K (F := F)).defs (D (F := F))) 𝒱P (SparseCore.T d) none) Set.univ (main d)
          fun _ => iprop((K (F := F)).tcSt EH d 1 ∗ FIN m d ∗ (K (F := F)).tcEnd d) := by
  obtain ⟨bl, R, hst⟩ := tcSt_one (F := F) d
  have V₀ : Valuation τ sig (Elt F) := fun b => m (d, b)
  unfold SparseCore.Cfg.tcRes SparseCore.Cfg.tcEnd
  rw [unscopedBufs_eq]
  simp only [main, fn_pad.body, wp_bind, wp_pure]
  iintro ⟨#Hctx, Hst, ⟨Hb, ⟨Ha, Ht, Hc, Hz, Hx, Hg, Hx0, H2, H3, H4, H5, H6⟩, Hts, -⟩, HG⟩
  -- the padding
  iapply (wp_op1 V₀ d _ main_c rfl rfl rfl _ _ (fun V => val_c V))
  isplitr [Hb Hc]
  rotate_left
  · isplitl [Hb]; · iexact Hb
    iexact Hc
  iintro ⟨Hb, Hc⟩
  iapply (wp_op2 V₀ d _ main_c main_call0_v0 (by decide) rfl rfl rfl fullShare _ _ _ (fun V h => val_z V h))
  isplitr [Hb Hc Hz]
  rotate_left
  · isplitl [Hb]; · iexact Hb
    isplitl [Hc]; · iexact Hc
    iexact Hz
  iintro ⟨Hb, -, Hz⟩
  iapply (wp_op3 V₀ d _ main_arg0 main_call0_v0 main_v0 (by decide) (by decide) (by decide) rfl rfl rfl _ _ _ _ (fun V h h' => val_p (m (xaLoc d)) V h h'))
  isplitr [Hb Ha Hz Hx]
  rotate_left
  · isplitl [Hb]; · iexact Hb
    isplitl [Ha]; · iexact Ha
    isplitl [Hz]; · iexact Hz
    iexact Hx
  iintro ⟨Hb, Ha, Hx⟩
  -- the SparseCore call
  ihave H := (st_intro (tvM m) (xpM m) d _ _) $$ [Hx Ht Hg Hx0]
  · isplitl [Hx]; · iexact Hx
    isplitl [Ht]; · iexact Ht
    isplitl [Hg]; · iexact Hg
    iexact Hx0
  icases H with ⟨Ht, Hgo⟩
  imodintro
  iapply ((K (F := F)).wp_run (D (F := F)) 𝒱P (EH := EH) (P := P (tvM m) (xpM m)) κ d 0)
  isplitr; · iexact Hctx
  isplitl [Hst]; · iexact Hst
  isplitl [Hgo]; · iexact Hgo
  iintro ⟨Hst, Hdn⟩
  ihave Hdn := (dn_elim (tvM m) (xpM m) d) $$ Hdn
  icases Hdn with ⟨Hg, Hx0⟩
  -- the reshapes
  iapply (wp_op2 V₀ d _ main_arg1 main_v2 (by decide) rfl rfl rfl (Transfers.shareDrop fullShare 2) _ _ _ (fun V h => val_2 (tvM m d) V h))
  isplitr [Hb Ht H2]
  rotate_left
  · isplitl [Hb]; · iexact Hb
    isplitl [Ht]; · iexact Ht
    iexact H2
  iintro ⟨Hb, Ht, H2⟩
  iapply (wp_op2 V₀ d _ main_v1_0 main_v3 (by decide) rfl rfl rfl fullShare _ _ _ (fun V h => val_3 (gV (tvM m d) (xpM m d)) V h))
  isplitr [Hb Hg H3]
  rotate_left
  · isplitl [Hb]; · iexact Hb
    isplitl [Hg]; · iexact Hg
    iexact H3
  iintro ⟨Hb, -, H3⟩
  iapply (wp_op2 V₀ d _ main_v1_1 main_v4 (by decide) rfl rfl rfl fullShare _ _ _ (fun V h => val_4 (x0full (xpM m d)) V h))
  isplitr [Hb Hx0 H4]
  rotate_left
  · isplitl [Hb]; · iexact Hb
    isplitl [Hx0]; · iexact Hx0
    iexact H4
  iintro ⟨Hb, -, H4⟩
  -- the TensorCore call
  ihave Hst := (Entails.of_eq (show (K (F := F)).tcSt EH d ((0 : Fin 1).val + 1) = _ from hst)) $$ Hst
  icases Hst with ⟨HO, HR⟩
  ihave Hl := (SparseCore.Cfg.ctx_levAts κ) $$ Hctx
  iapply (wp_call (t2M m) (g2M m) (x2M m) (fun d => m (xaLoc d)) (o5M m) bl d)
  isplitr [Hb H2 H3 H4 Ha H5 HO Hl HG]
  rotate_left
  · isplitl [Hb]; · iexact Hb
    isplitl [H2 H3 H4 Ha H5 HO]
    · unfold preR
      isplitl [H2]; · iexact H2
      isplitl [H3]; · iexact H3
      isplitl [H4]; · iexact H4
      isplitl [Ha]; · iexact Ha
      isplitl [H5]; · iexact H5
      iexact HO
    isplitl [Hl]; · iexact Hl
    iexact HG
  unfold preR
  iintro ⟨Hb, -, -, -, Ha, H5, HO⟩
  -- the last reshape
  iapply (wp_op2 V₀ d _ main_v5 main_v6 (by decide) rfl rfl rfl fullShare _ _ _ (fun V h => val_6 (outM m d) V h))
  isplitr [Hb H5 H6]
  rotate_left
  · isplitl [Hb]; · iexact Hb
    isplitl [H5]; · iexact H5
    iexact H6
  iintro ⟨Hb, -, H6⟩
  imodintro
  isplitl [HO HR]
  · iapply (Entails.of_eq hst.symm)
    isplitl [HO]; · iexact HO
    iexact HR
  isplitr [Hb Hts]
  · unfold FIN
    isplitl [Ha]; · iexact Ha
    isplitl [Ht]
    · iexists _; iexact Ht
    iexact H6
  isplitl [Hb] <;> iassumption

def fq (d : Dev nD) (s' : Phys nD τ sig (Elt F)) : Prop :=
  s'.mem.mem (xaLoc d) = m (xaLoc d) ∧ s'.mem.mem (tLoc d) = m (tLoc d) ∧ s'.mem.mem (oLoc d) = fun _ => outM m d

theorem hfin (d : Dev nD) (s' : Phys nD τ sig (Elt F)) : iprop(FIN m d ∗ SI s') ⊢ (⌜fq m d s'⌝ : sProp 𝕄) := by
  unfold FIN
  iintro ⟨⟨Ha, ⟨%q, Ht⟩, Ho⟩, HSI⟩
  ihave H := (persistent_entails_right (SI_pointsTo_agree (st := s') (ℓ := xaLoc d) (I := Finset.univ) (q := fullShare) (f := m (xaLoc d)))) $$ [HSI Ha]
  · isplitl [HSI] <;> iassumption
  icases H with ⟨%h1, HSI, -⟩
  ihave H := (persistent_entails_right (SI_pointsTo_agree (st := s') (ℓ := tLoc d) (I := Finset.univ) (q := q) (f := m (tLoc d)))) $$ [HSI Ht]
  · isplitl [HSI] <;> iassumption
  icases H with ⟨%h2, HSI, -⟩
  ihave H := (SI_pointsTo_agree (st := s') (ℓ := oLoc d) (I := Finset.univ) (q := fullShare) (f := fun _ => outM m d)) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-! ## The program's run -/

/-- What the run ends with: `x` and the targets as they were, the result's word, every semaphore at zero. -/
def QC : PUnit × MemSt nD τ sig (Elt F) → Prop :=
  fun r => (∀ c : Dev nD, r.2.mem (xaLoc c) = m (xaLoc c) ∧ r.2.mem (tLoc c) = m (tLoc c) ∧ r.2.mem (oLoc c) = fun _ => outM m c) ∧ r.2.sem = fun _ => 0

/-- The program, run from any memory whose targets are below 100000, ends there. -/
theorem run_main [∀ e, Nonempty (Elt F e)] (hpre : ∀ d, InR (tvM m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱P) (EH := EH) (P := P (tvM m) (xpM m)) (A := ∅) facts v₀
    (fun q hq => match q with | 0 => nomatch hq)
    (fun q _ => match q with | 0 => tileObl (tvM m) (xpM m) hpre)
    (fun q _ => match q with | 0 => SparseCore.Cfg.VecSplit.of_plain (vecSplit (tvM m) (xpM m)))
    m ρ main G (FIN m) (u₀ (F := F)) (sep_elim_left.trans (hu₀ (tvM m) (xpM m))) (hmain m ρ) (fq m) (hfin m) (QC m) (fun _ h hz => ⟨h, hz⟩)

end Cert.Proof.KI
-- ==== Proof.Frames.lean ====
/-
  The frames of the kernel, of its idealization and of the reference, and the idealization's rewrites.
-/
module

public import proofs.«01_k».proof.Proof.Pre
public import proofs.«01_k».proof.Proof.KI.Main
public import proofs.«01_k».proof.Proof.KK.Main
public import proofs.«01_k».proof.Proof.Gen.ReferenceIdeal
public import proofs.«01_k».proof.Proof.Gen.ReferenceIdeal.Run
public import Idealize.ShloMosaic.Lib.Quiescent

@[expose] public section

noncomputable section

namespace Cert.Proof.Frames

open Idealize.ShloMosaic Idealize.SL.Sem

/-- `Cert.quiescent_Kernel` (Defs.lean): the kernel runs, keeps its arguments and leaves every counter at zero. -/
theorem frame_p : Cert.quiescent_Kernel := fun m ρ hpre =>
  (θ_run Cert.Kernel.defs _ _).mono (fun _ h => ⟨fun c => ⟨(h.1 c).1, (h.1 c).2.1⟩, h.2⟩)
    (KK.run_main (F := Bits) m ρ fun d r => Pre.lt_of_in_range _ _ (hpre d) r)

/-- `Cert.quiescent_KernelIdeal` (Defs.lean): the same of the idealized kernel. -/
theorem frame_pi : Cert.quiescent_KernelIdeal := fun m ρ hpre =>
  (θ_run Cert.KernelIdeal.defs _ _).mono (fun _ h => ⟨fun c => ⟨(h.1 c).1, (h.1 c).2.1⟩, h.2⟩)
    (KI.run_main (F := Ideal) m ρ fun d r => Pre.lt_of_in_range _ _ (hpre d) r)

/-- The same under the precondition that also takes x finite. -/
theorem frame_pi_finite : Cert.quiescent_KernelIdeal_pre_in_range_finite := fun m ρ hpre =>
  (θ_run Cert.KernelIdeal.defs _ _).mono (fun _ h => ⟨fun c => ⟨(h.1 c).1, (h.1 c).2.1⟩, h.2⟩)
    (KI.run_main (F := Ideal) m ρ fun d r => Pre.lt_of_in_range_finite _ _ (hpre d) r)

/-- `Cert.quiescent_ReferenceIdeal` (Defs.lean): the reference runs and keeps its arguments. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition that also takes x finite. -/
theorem frame_ri_finite : Cert.quiescent_ReferenceIdeal_pre_in_range_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.preserves_Kernel_KernelIdeal` (Defs.lean): the three named constants. -/
theorem preserves : Cert.preserves_Kernel_KernelIdeal :=
  ⟨IdealRules.named_const.statement Cert.KernelIdeal.κ "smooth" .f32 0x3586386D#32 ((1 / 999980 : ℝ) : EReal) rfl,
    IdealRules.named_const.statement Cert.KernelIdeal.κ "c1" .f32 0xBFBCF9CF#32 (((1 / 10) * (Real.log (387420489 / 999980000000000)) : ℝ) : EReal) rfl,
    IdealRules.named_const.statement Cert.KernelIdeal.κ "conf" .f32 0x3F666666#32 ((9 / 10 : ℝ) : EReal) rfl⟩

end Cert.Proof.Frames

end
-- ==== Proof.Sums.lean ====
/-
  Sums of real numbers, and the equation of one row: the reference's sum over the classes, and the kernel's three numbers.
-/
module

public import Idealize.ShloMosaic.PureOps.Ideal
public import Idealize.ShloMosaic.PureOps.IdealRules
public import Mathlib.Algebra.BigOperators.Intervals

@[expose] public section

noncomputable section

namespace Cert.Proof.Sums

open Finset

/-- A finite sum of real numbers, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

/-- A sum over `a * b` numbers, in `a` blocks of `b`. -/
theorem sum_blocks (f : ℕ → ℝ) (a b : ℕ) : ∑ j ∈ range (a * b), f j = ∑ m ∈ range a, ∑ c ∈ range b, f (b * m + c) := by
  induction a with
  | zero => simp
  | succ a ih =>
    rw [Nat.succ_mul, sum_range_add, ih, sum_range_succ]
    congr 1
    exact sum_congr rfl fun c _ => by rw [Nat.mul_comm a b]

/-- The row sum by lanes: 128 lanes, in each 49 blocks of 16 groups. -/
theorem sum_lanes (f : ℕ → ℝ) (hf : ∀ j, 100000 ≤ j → f j = 0) :
    ∑ q ∈ range 128, ∑ m ∈ range 49, ∑ k ∈ range 16, f (2048 * m + (128 * k + q)) = ∑ j ∈ range 100000, f j := by
  have h1 : ∑ j ∈ range 100352, f j = ∑ j ∈ range 100000, f j := by
    rw [show (100352 : ℕ) = 100000 + 352 from rfl, sum_range_add]
    rw [sum_eq_zero (s := range 352) fun c _ => hf _ (by omega), add_zero]
  rw [← h1, show (100352 : ℕ) = 49 * 2048 from rfl, sum_blocks, sum_comm]
  refine sum_congr rfl fun m _ => ?_
  rw [show (2048 : ℕ) = 16 * 128 from rfl, sum_blocks (fun c => f (16 * 128 * m + c)) 16 128, sum_comm]

/-- What one element adds to the loss: row `x`, target `t`, class `j`. -/
def term (x : ℕ → ℝ) (t j : ℕ) : ℝ :=
  if t = 0 then 0 else if j = 0 then 0 else if j = t then 9 / 10 * (Real.log (9 / 10) - x j) else 1 / 999980 * (Real.log (1 / 999980) - x j)

/-- What the kernel makes of one row: from the row's sum, its first element and its element at the target. -/
def rowK (x : ℕ → ℝ) (t : ℕ) : ℝ :=
  (if t = 0 then 0 else 1) * (1 / 10 * Real.log (387420489 / 999980000000000)
    - 1 / 999980 * ((∑ j ∈ range 100000, x j) - x 0 - x t) - 9 / 10 * x t)

/-- The constant of a row: a tenth of the logarithm of the smoothing, and the confidence times its own. -/
theorem log_c1 : 1 / 10 * Real.log (387420489 / 999980000000000) = 1 / 10 * Real.log (1 / 999980) + 9 / 10 * Real.log (9 / 10) := by
  have h : (387420489 / 999980000000000 : ℝ) = 1 / 999980 * (9 / 10) ^ 9 := by norm_num
  rw [h, Real.log_mul (by norm_num) (by norm_num), Real.log_pow]
  push_cast
  ring

/-- One row: the sum over the classes is what the kernel makes of it. -/
theorem row_eq (x : ℕ → ℝ) (t : ℕ) (ht : t < 100000) : ∑ j ∈ range 100000, term x t j = rowK x t := by
  unfold rowK
  by_cases h0 : t = 0
  · rw [if_pos h0, zero_mul]
    exact sum_eq_zero fun j _ => by unfold term; rw [if_pos h0]
  · rw [if_neg h0, one_mul, log_c1]
    have hterm : ∀ j, term x t j = 1 / 999980 * Real.log (1 / 999980) - 1 / 999980 * x j
        + ((if j = 0 then -(1 / 999980 * (Real.log (1 / 999980) - x 0)) else 0)
          + (if j = t then 9 / 10 * (Real.log (9 / 10) - x t) - 1 / 999980 * (Real.log (1 / 999980) - x t) else 0)) := by
      intro j
      unfold term
      rw [if_neg h0]
      by_cases hj : j = 0
      · subst hj
        rw [if_pos rfl, if_pos rfl, if_neg (Ne.symm h0)]
        ring
      · rw [if_neg hj, if_neg hj]
        by_cases hjt : j = t
        · subst hjt; rw [if_pos rfl, if_pos rfl]; ring
        · rw [if_neg hjt, if_neg hjt]; ring
    rw [sum_congr rfl fun j _ => hterm j, sum_add_distrib, sum_add_distrib, sum_sub_distrib, sum_const, card_range, ← mul_sum,
      sum_ite_eq' , sum_ite_eq', if_pos (mem_range.2 (by norm_num)), if_pos (mem_range.2 ht)]
    simp only [nsmul_eq_mul]
    push_cast
    ring

end Cert.Proof.Sums

end
-- ==== Proof.KernelValue.lean ====
/-
  What the idealized kernel leaves, over the reals: the sum over the rows of what it makes of each.
-/
module

public import proofs.«01_k».proof.Proof.KI.Main
public import proofs.«01_k».proof.Proof.Sums
public import Idealize.ShloMosaic.PureOps.IdealRules
public import Idealize.ShloMosaic.Lib.Pointwise
public import Idealize.ShloMosaic.Lib.IdealHost

@[expose] public section

noncomputable section

namespace Cert.Proof.KernelValue

open Cert.KernelIdeal Cert.KernelIdeal.Gen Cert.Proof.KI Cert.Proof.Sums
open Idealize.ShloMosaic Finset

/-- A row of x, zero past its end. -/
def ext (X : ℕ → ℕ → ℝ) (r j : ℕ) : ℝ := if j < 100000 then X r j else 0

/-- A block of x holds the row's elements from column `2048 n` on, and zero past the end. -/
theorem xblk_eq (X : ℕ → ℕ → ℝ) (xv : S1024x100000.Idx → Ideal .f32) (hx : ∀ p, xv p = ((X (p 0).val (p 1).val : ℝ) : EReal)) (n : ℕ) (p : S1024x2048.Idx) :
    xblk xv n p = ((ext X (p 0).val (2048 * n + (p 1).val) : ℝ) : EReal) := by
  unfold xblk ext
  split_ifs with h
  · exact hx _
  · show Ideal.ofBits .f32 0x00000000#32 = _
    rw [Ideal.ofBits_zero_f32]; rfl

/-- The first step adds the block's 16 groups of lanes. -/
theorem pay1_eq (w : ℕ → ℕ → ℝ) (v : S1024x2048.Idx → Ideal .f32) (hv : ∀ p, v p = ((w (p 0).val (p 1).val : ℝ) : EReal)) (p : S1024x128.Idx) :
    k1_pay1 (F := Ideal) v p = ((∑ k ∈ range 16, w (p 0).val (128 * k + (p 1).val) : ℝ) : EReal) := by
  obtain rfl : v = fun p => ((w (p 0).val (p 1).val : ℝ) : EReal) := funext hv
  unfold k1_pay1
  pointwise
  simp only [← EReal.coe_add]
  congr 1
  simp only [sum_range_succ, sum_range_zero]
  ring_nf

/-- A later step adds them to what was there. -/
theorem pay2_eq (w : ℕ → ℕ → ℝ) (v : S1024x2048.Idx → Ideal .f32) (hv : ∀ p, v p = ((w (p 0).val (p 1).val : ℝ) : EReal))
    (a : S1024x128.Idx → Ideal .f32) (p : S1024x128.Idx) :
    k1_pay2 (F := Ideal) v a p = a p + ((∑ k ∈ range 16, w (p 0).val (128 * k + (p 1).val) : ℝ) : EReal) := by
  obtain rfl : v = fun p => ((w (p 0).val (p 1).val : ℝ) : EReal) := funext hv
  unfold k1_pay2
  pointwise
  simp only [← EReal.coe_add]
  congr 2
  simp only [sum_range_succ, sum_range_zero]
  ring_nf

/-- The masked last block is the block: past the row's end both are zero. -/
theorem masked_eq (X : ℕ → ℕ → ℝ) (xv : S1024x100000.Idx → Ideal .f32) (hx : ∀ p, xv p = ((X (p 0).val (p 1).val : ℝ) : EReal)) :
    select (maskV 48#32) (xblk xv 48) (broadcast S1024x2048 (Scalar.ofBits (F := Ideal) .f32 0x00000000#32)) = xblk xv 48 := by
  funext p
  show Scalar.select (maskV 48#32 p) (xblk xv 48 p) _ = _
  unfold Scalar.select
  by_cases hm : maskV 48#32 p = 1
  · rw [if_pos hm]
  · rw [if_neg hm]
    unfold xblk
    rw [dif_neg fun h => hm ((maskV_iff p).mpr (by omega))]
    rfl

/-- The running sums after a point: lane by lane, over the blocks so far and their groups. -/
theorem accV_eq (X : ℕ → ℕ → ℝ) (xv : S1024x100000.Idx → Ideal .f32) (hx : ∀ p, xv p = ((X (p 0).val (p 1).val : ℝ) : EReal)) (n : ℕ) (hn : n < 49) (p : S1024x128.Idx) :
    accV xv n p = ((∑ m ∈ range (n + 1), ∑ k ∈ range 16, ext X (p 0).val (2048 * m + (128 * k + (p 1).val)) : ℝ) : EReal) := by
  induction n with
  | zero =>
    rw [sum_range_one]
    exact pay1_eq (fun r j => ext X r (2048 * 0 + j)) _ (xblk_eq X xv hx 0) p
  | succ n ih =>
    have hstep : stepV (n + 1) (xblk xv (n + 1)) (accV xv n) = k1_pay2 (xblk xv (n + 1)) (accV xv n) := by
      unfold stepV
      rw [if_neg (by omega)]
      by_cases h : n + 1 < 48
      · rw [if_pos h]
      · obtain rfl : n = 47 := by omega
        rw [if_neg h, pay4_eq]
        congr 1
        exact masked_eq X xv hx
    rw [sum_range_succ, EReal.coe_add, ← ih (by omega)]
    show stepV (n + 1) (xblk xv (n + 1)) (accV xv n) p = _
    rw [hstep]
    exact pay2_eq (fun r j => ext X r (2048 * (n + 1) + j)) _ (xblk_eq X xv hx (n + 1)) _ p

/-- The lanes of the last sums, added up: the row's sum. -/
theorem accV_sum (X : ℕ → ℕ → ℝ) (xv : S1024x100000.Idx → Ideal .f32) (hx : ∀ p, xv p = ((X (p 0).val (p 1).val : ℝ) : EReal)) (r : Fin 1024) :
    ∑ q : Fin 128, accV xv 48 (ix2 r q) = ((∑ j ∈ range 100000, X r.val j : ℝ) : EReal) := by
  have h1 : ∑ j ∈ range 100000, X r.val j = ∑ j ∈ range 100000, ext X r.val j :=
    sum_congr rfl fun j hj => (if_pos (mem_range.1 hj)).symm
  have h2 : ∀ q : Fin 128, accV xv 48 (ix2 r q) = ((∑ m ∈ range 49, ∑ k ∈ range 16, ext X r.val (2048 * m + (128 * k + q.val)) : ℝ) : EReal) :=
    fun q => accV_eq X xv hx 48 (by norm_num) (ix2 r q)
  rw [h1, ← sum_lanes (fun j => ext X r.val j) fun j hj => if_neg (by omega),
    ← Fin.sum_univ_eq_sum_range (fun q => ∑ m ∈ range 49, ∑ k ∈ range 16, ext X r.val (2048 * m + (128 * k + q))) 128, coe_sum]
  exact sum_congr rfl fun q _ => h2 q

/-- The three named constants at the ideal values. -/
theorem smooth_eq : Named.named (F := Ideal) (φ := .f32) κ "smooth" 0x3586386D#32 = ((1 / 999980 : ℝ) : EReal) :=
  IdealRules.named_const.ideal_named_scalar _ _ _ _ rfl

theorem c1_eq : Named.named (F := Ideal) (φ := .f32) κ "c1" 0xBFBCF9CF#32 = (((1 / 10) * (Real.log (387420489 / 999980000000000)) : ℝ) : EReal) :=
  IdealRules.named_const.ideal_named_scalar _ _ _ _ rfl

theorem conf_eq : Named.named (F := Ideal) (φ := .f32) κ "conf" 0x3F666666#32 = ((9 / 10 : ℝ) : EReal) :=
  IdealRules.named_const.ideal_named_scalar _ _ _ _ rfl

/-- The bit of a target that is not the padding class, as a number. -/
theorem bit_eq (v : BitVec 32) : FloatOps.sitofp (F := Ideal) .f32 (BitVec.setWidth 32 (IntOp.cmpi .ne v 0#32)) = ((if v = 0#32 then 0 else 1 : ℝ) : EReal) := by
  show ((((BitVec.setWidth 32 (BitVec.ofBool (v != 0#32))).toInt : ℝ)) : EReal) = _
  by_cases h : v = 0#32
  · subst h; simp
  · rw [if_neg h, show (v != 0#32) = true by simpa using h]; simp

/-- The last step: from the targets, the two picked columns and the running sums, the loss. -/
theorem outV_eq (t2 : S1024x1.Idx → BitVec 32) (g2 x2 : S1024x1.Idx → Ideal .f32) (a : S1024x128.Idx → Ideal .f32) (S G Z : ℕ → ℝ)
    (hg : ∀ r : Fin 1024, g2 (ix2 r 0) = ((G r.val : ℝ) : EReal)) (hz : ∀ r : Fin 1024, x2 (ix2 r 0) = ((Z r.val : ℝ) : EReal))
    (ha : ∀ r : Fin 1024, ∑ q : Fin 128, a (ix2 r q) = ((S r.val : ℝ) : EReal)) :
    outV (F := Ideal) t2 g2 x2 a = ((∑ r : Fin 1024, (if t2 (ix2 r 0) = 0#32 then 0 else 1) * (1 / 10 * Real.log (387420489 / 999980000000000)
      - 1 / 999980 * (S r.val - Z r.val - G r.val) - 9 / 10 * G r.val) : ℝ) : EReal) := by
  unfold outV k1_pay3 k1_pay5
  simp only [smooth_eq, c1_eq, conf_eq]
  pointwise
  rw [coe_sum]
  refine sum_congr rfl fun r _ => ?_
  rw [Fin.sum_univ_one, bit_eq, ha, hz, hg]
  simp only [← EReal.coe_sub, ← EReal.coe_mul]

/-- The padded array, at a column of x: x. -/
theorem padV_eq (x : S1024x100000.Idx → Ideal .f32) (r : Fin 1024) (c : Fin 100000) : padV x (px r.val c.val) = x (ix2 r c) := by
  have hp : px r.val c.val = ix2 r (⟨c.val, lt_trans c.isLt (by norm_num)⟩ : Fin 100096) := by
    funext a
    apply Fin.ext
    have h0 := r.isLt
    have h1 := c.isLt
    fin_cases a
    · exact Nat.mod_eq_of_lt h0
    · exact Nat.mod_eq_of_lt (lt_trans h1 (by norm_num))
  rw [hp]
  unfold padV
  pointwise

variable (m : (ℓ : Loc nD τ sig) → Buf (Elt Ideal) ℓ)

/-- What the idealized kernel leaves: the sum of what it makes of each row. -/
theorem outM_eq (d : Dev nD) (X : ℕ → ℕ → ℝ) (hx : ∀ p : S1024x100000.Idx, m (xaLoc d) p = ((X (p 0).val (p 1).val : ℝ) : EReal)) (ht : InR (tvM m d)) :
    outM m d = ((∑ r : Fin 1024, rowK (X r.val) (tvM m d (ix1 r)).toNat : ℝ) : EReal) := by
  have ht2 : ∀ r : Fin 1024, t2M m d (ix2 r 0) = tvM m d (ix1 r) := fun r => by unfold t2M; pointwise
  have hp1 : ∀ r : Fin 1024, p1 r.val = ix1 r := fun r => by
    funext a; apply Fin.ext; fin_cases a; exact Nat.mod_eq_of_lt r.isLt
  have hg : ∀ r : Fin 1024, g2M m d (ix2 r 0) = ((X r.val (tvM m d (p1 r.val)).toNat : ℝ) : EReal) := fun r => by
    have h : g2M m d (ix2 r 0) = gV (tvM m d) (xpM m d) (ix1 r) := by unfold g2M; pointwise
    rw [h]
    exact (padV_eq (m (xaLoc d)) r ⟨_, ht (p1 r.val)⟩).trans (hx _)
  have hz : ∀ r : Fin 1024, x2M m d (ix2 r 0) = ((X r.val 0 : ℝ) : EReal) := fun r => by
    have h : x2M m d (ix2 r 0) = x0full (xpM m d) (ix1 r) := by unfold x2M; pointwise
    rw [h]
    exact (padV_eq (m (xaLoc d)) r ⟨0, by norm_num⟩).trans (hx _)
  unfold outM resV
  rw [outV_eq (t2M m d) (g2M m d) (x2M m d) _ (fun r => ∑ j ∈ range 100000, X r j) (fun r => X r (tvM m d (p1 r)).toNat) (fun r => X r 0) hg hz
    (accV_sum X _ hx)]
  refine congrArg (fun a : ℝ => (a : EReal)) (sum_congr rfl fun r _ => ?_)
  rw [ht2, hp1]
  unfold rowK
  congr 1
  by_cases h : tvM m d (ix1 r) = 0#32
  · rw [if_pos h, h]; rfl
  · rw [if_neg h, if_neg fun e : (tvM m d (ix1 r)).toNat = 0 => h (BitVec.eq_of_toNat_eq e)]

end Cert.Proof.KernelValue

end
-- ==== Proof.RefValue.lean ====
/-
  What the reference computes, over the reals: the sum over the rows and the classes of what each element adds.
-/
module

public import proofs.«01_k».proof.Proof.Gen.ReferenceIdeal
public import proofs.«01_k».proof.Proof.Gen.ReferenceIdeal.Run
public import proofs.«01_k».proof.Proof.Sums
public import Idealize.ShloMosaic.PureOps.IdealRules
public import Idealize.ShloMosaic.Lib.Pointwise
public import Idealize.ShloMosaic.Lib.IdealHost

@[expose] public section

noncomputable section

namespace Cert.Proof.RefValue

open Cert.ReferenceIdeal Cert.ReferenceIdeal.Gen Cert.Proof.Sums
open Idealize.ShloMosaic Finset

/-- The reference's float words. -/
theorem ofBits_10 : Ideal.ofBits .f32 0x41200000#32 = ((10 : ℝ) : EReal) := by
  simp [Ideal.ofBits, Ideal.ieee, -EReal.coe_mul]; norm_num

theorem ofBits_99998 : Ideal.ofBits .f32 0x47C34F00#32 = ((99998 : ℝ) : EReal) := by
  simp [Ideal.ofBits, Ideal.ieee, -EReal.coe_mul]; norm_num

/-- A choice by equal words. -/
theorem select_eq {α : Type} (a b : BitVec 32) (x y : α) : Scalar.select (IntOp.cmpi .eq a b) x y = if a = b then x else y := by
  unfold Scalar.select
  refine if_congr ?_ rfl rfl
  show BitVec.ofBool (a == b) = 1 ↔ a = b
  by_cases h : a = b
  · simp [h]
  · rw [show (a == b) = false by simpa using h]
    exact ⟨fun e => absurd e (by decide), fun e => absurd e h⟩

/-- The target distribution of a row: nothing in a padding row or at the padding class, the confidence at the target, the smoothing elsewhere. -/
def dist (t j : ℕ) : ℝ := if t = 0 then 0 else if j = 0 then 0 else if j = t then 9 / 10 else 1 / 999980

/-- The smoothing at the reference's words. -/
theorem smoothing_eq : Ideal.div 1 (Ideal.ofBits .f32 0x41200000#32) = ((1 / 10 : ℝ) : EReal) := by
  rw [ofBits_10, Ideal.div_coe (by norm_num), one_mul]

/-- The smoothing of one class. -/
theorem share_eq : Ideal.div (Ideal.div 1 (Ideal.ofBits .f32 0x41200000#32)) (Ideal.ofBits .f32 0x47C34F00#32) = ((1 / 999980 : ℝ) : EReal) := by
  rw [smoothing_eq, ofBits_99998, Ideal.div_coe (by norm_num), ← EReal.coe_mul]
  congr 1
  norm_num

/-- The confidence. -/
theorem confidence_eq : 1 - Ideal.div 1 (Ideal.ofBits .f32 0x41200000#32) = ((9 / 10 : ℝ) : EReal) := by
  rw [smoothing_eq, ← EReal.coe_one, ← EReal.coe_sub]
  congr 1
  norm_num

/-- Zero and one as the reference spells them. -/
theorem zero_eq : id (constant (F := Ideal) S_ .f32 0x00000000#32) ix0 = ((0 : ℝ) : EReal) := by
  show Ideal.ofBits .f32 0x00000000#32 = _
  rw [Ideal.ofBits_zero_f32]; rfl

theorem one_eq : id (constant (F := Ideal) S_ .f32 0x3F800000#32) ix0 = ((1 : ℝ) : EReal) := by
  show Ideal.ofBits .f32 0x3F800000#32 = _
  rw [Ideal.ofBits_one_f32]; rfl

/-- The reference's three nested choices are the distribution. -/
theorem dist_eq (t : BitVec 32) (j : Fin 100000) :
    Scalar.select (IntOp.cmpi .eq t 0#32) ((0 : ℝ) : EReal)
      (Scalar.select (IntOp.cmpi .eq (BitVec.ofNat 32 j.val) 0#32) ((0 : ℝ) : EReal)
        (Scalar.select (IntOp.cmpi .eq (BitVec.ofNat 32 j.val) t) (1 - Ideal.div 1 (Ideal.ofBits .f32 0x41200000#32))
          (Ideal.div (Ideal.div 1 (Ideal.ofBits .f32 0x41200000#32)) (Ideal.ofBits .f32 0x47C34F00#32))))
      = ((dist t.toNat j.val : ℝ) : EReal) := by
  have hj : j.val < 2 ^ 32 := lt_trans j.isLt (by norm_num)
  have e0 : t = 0#32 ↔ t.toNat = 0 := ⟨fun h => by rw [h]; rfl, fun h => BitVec.eq_of_toNat_eq h⟩
  have e1 : BitVec.ofNat 32 j.val = 0#32 ↔ j.val = 0 := by
    rw [← BitVec.toNat_inj, BitVec.toNat_ofNat, Nat.mod_eq_of_lt hj]; rfl
  have e2 : BitVec.ofNat 32 j.val = t ↔ j.val = t.toNat := by
    rw [← BitVec.toNat_inj, BitVec.toNat_ofNat, Nat.mod_eq_of_lt hj]
  rw [select_eq, select_eq, select_eq, share_eq, confidence_eq]
  unfold dist
  simp only [e0, e1, e2]
  split_ifs <;> rfl

/-- One element's part of the loss. -/
theorem term_eq (x : ℕ → ℝ) (t j : ℕ) :
    (if (0 : EReal) < ((dist t j : ℝ) : EReal) then
        ((dist t j : ℝ) : EReal) * (Ideal.log (if (0 : EReal) < ((dist t j : ℝ) : EReal) then ((dist t j : ℝ) : EReal) else ((1 : ℝ) : EReal)) - ((x j : ℝ) : EReal))
      else ((0 : ℝ) : EReal)) = ((term x t j : ℝ) : EReal) := by
  have hpos : ∀ a : ℝ, 0 < a → (if (0 : EReal) < ((a : ℝ) : EReal) then
        ((a : ℝ) : EReal) * (Ideal.log (if (0 : EReal) < ((a : ℝ) : EReal) then ((a : ℝ) : EReal) else ((1 : ℝ) : EReal)) - ((x j : ℝ) : EReal))
      else ((0 : ℝ) : EReal)) = ((a * (Real.log a - x j) : ℝ) : EReal) := by
    intro a ha
    rw [if_pos (EReal.coe_pos.2 ha), if_pos (EReal.coe_pos.2 ha), Ideal.log_coe, if_neg (not_le.2 ha), EReal.coe_mul, EReal.coe_sub]
  unfold dist term
  by_cases h0 : t = 0
  · rw [if_pos h0, if_pos h0]; exact if_neg (lt_irrefl _)
  by_cases h1 : j = 0
  · rw [if_neg h0, if_neg h0, if_pos h1, if_pos h1]; exact if_neg (lt_irrefl _)
  rw [if_neg h0, if_neg h0, if_neg h1, if_neg h1]
  by_cases h2 : j = t
  · rw [if_pos h2, if_pos h2]; exact hpos _ (by norm_num)
  · rw [if_neg h2, if_neg h2]; exact hpos _ (by norm_num)

variable (m : (ℓ : Loc nD τ sig) → Buf (Elt Ideal) ℓ)

/-- What the reference leaves: the sum over the rows and the classes. -/
theorem res_eq (c : Dev nD) (X : ℕ → ℕ → ℝ) (x : S1024x100000.Idx → Ideal .f32) (t : S1024.Idx → BitVec 32)
    (hx0 : m ((c.tc : Thread nD τ).loc main_arg0) = x) (ht0 : m ((c.tc : Thread nD τ).loc main_arg1) = t)
    (hx : ∀ p : S1024x100000.Idx, x p = ((X (p 0).val (p 1).val : ℝ) : EReal)) (k : S_.Idx) :
    Value.res_main_v25 m c k = ((∑ r : Fin 1024, ∑ j ∈ range 100000, term (X r.val) (t (ix1 r)).toNat j : ℝ) : EReal) := by
  unfold Value.res_main_v25
  rw [hx0, ht0]
  pointwise
  simp only [hx, zero_eq, one_eq]
  simp only [dist_eq]
  refine Eq.trans (b := (∑ r : Fin 1024, ((∑ j ∈ range 100000, term (X r.val) (t (ix1 r)).toNat j : ℝ) : EReal) : EReal)) ?_ (coe_sum univ _).symm
  refine sum_congr (M := EReal) rfl fun r _ => ?_
  rw [← Fin.sum_univ_eq_sum_range (fun j => term (X r.val) (t (ix1 r)).toNat j) 100000, coe_sum]
  exact sum_congr rfl fun j _ => term_eq (X r.val) (t (ix1 r)).toNat j.val

end Cert.Proof.RefValue

end
-- ==== Proof.Equation.lean ====
/-
  The idealized kernel and the reference compute the same number.
-/
module

public import proofs.«01_k».proof.Proof.Pre
public import proofs.«01_k».proof.Proof.KernelValue
public import proofs.«01_k».proof.Proof.RefValue

@[expose] public section

noncomputable section

namespace Cert.Proof.Equation

open Idealize.ShloMosaic Idealize.SL.Sem Finset Cert.Proof.Sums

/-- A number whose absolute value is below the infinity is real. -/
theorem real_of_abs (a : Ideal .f32) (h : FloatOps.cmpf (F := Ideal) .olt (FloatOps.absf a) (FloatOps.ofBits .f32 0x7F800000#32) = 1#1) :
    a = ((EReal.toReal a : ℝ) : EReal) := by
  have hinf : Ideal.ofBits .f32 0x7F800000#32 = ⊤ := by simp [Ideal.ofBits, Ideal.ieee]
  have h' : Ideal.cmp .olt (max a (-a)) (Ideal.ofBits .f32 0x7F800000#32) = 1#1 := h
  rw [hinf] at h'
  have hlt : max a (-a) < (⊤ : EReal) := by
    by_contra hn
    simp [Ideal.cmp, hn] at h'
  refine (EReal.coe_toReal ?_ ?_).symm
  · rintro rfl; simp at hlt
  · rintro rfl; simp at hlt

/-- `Cert.algebraic_KernelIdeal_ReferenceIdeal_pre_in_range_finite` (Defs.lean): from the same finite x and targets in range, both run, keep
    their arguments and leave the same number. -/
theorem algebraic : Cert.algebraic_KernelIdeal_ReferenceIdeal_pre_in_range_finite := by
  intro m g m' g' hpre hargs
  have ht : ∀ d r, (KI.tvM m d r).toNat < 100000 := fun d r => Pre.lt_of_in_range_finite _ _ (hpre d) r
  let X : Dev Cert.KernelIdeal.nD → ℕ → ℕ → ℝ := fun d r j =>
    if h : r < 1024 ∧ j < 100000 then EReal.toReal (show EReal from m (KI.xaLoc d) (ix2 (⟨r, h.1⟩ : Fin 1024) (⟨j, h.2⟩ : Fin 100000))) else 0
  have hx : ∀ d (p : Cert.KernelIdeal.S1024x100000.Idx), m (KI.xaLoc d) p = ((X d (p 0).val (p 1).val : ℝ) : EReal) := by
    intro d p
    have hp : ix2 (⟨(p 0).val, (p 0).isLt⟩ : Fin 1024) (⟨(p 1).val, (p 1).isLt⟩ : Fin 100000) = p := (eq_ix2 p).symm
    have e : X d (p 0).val (p 1).val = EReal.toReal (show EReal from m (KI.xaLoc d) p) := by
      show dite _ _ _ = _
      rw [dif_pos ⟨(p 0).isLt, (p 1).isLt⟩]
      exact congrArg (fun q => EReal.toReal (show EReal from m (KI.xaLoc d) q)) hp
    rw [e]
    exact real_of_abs _ (Pre.abs_of_in_range_finite _ _ (hpre d) p)
  refine ⟨fun d _ => KI.outM m d, ?_, ?_⟩
  · exact (θ_run Cert.KernelIdeal.defs _ _).mono (fun _ h c => ⟨(h.1 c).2.2, (h.1 c).1, (h.1 c).2.1⟩) (KI.run_main (F := Ideal) m g ht)
  · refine (θ_run Cert.ReferenceIdeal.defs _ _).mono (fun r h c => ⟨(h c).1.trans ?_, (h c).2⟩) (Cert.ReferenceIdeal.Value.run (F := Ideal) m' g')
    funext k
    rw [RefValue.res_eq m' c (X c) _ _ (hargs c).1 (hargs c).2 (hx c) k]
    refine Eq.trans ?_ (KernelValue.outM_eq m c (X c) (hx c) (ht c)).symm
    exact congrArg (fun a : ℝ => (a : EReal)) (sum_congr rfl fun r _ => row_eq (X c r.val) _ (ht c (ix1 r)))

end Cert.Proof.Equation

end
-- ==== Proof.lean ====
/-
  The claims, assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Frames
public import proofs.«01_k».proof.Proof.Equation

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_in_range.Gen.facts, Cert.Pre_in_range_finite.Gen.facts,
    Frames.frame_p, Frames.frame_pi, Frames.frame_pi_finite, Frames.frame_ri, Frames.frame_ri_finite, Frames.preserves, Equation.algebraic⟩

end Cert.Proof

end
